-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_ok [hPre_down_ok : Cert.Pre_down_ok.Facts] (m : (ℓ : Loc Cert.DownIdeal.nD Cert.DownIdeal.τ Cert.DownIdeal.sig) → Buf (Elt Ideal) ℓ) : Prop :=
  ∀ c : Dev Cert.DownIdeal.nD,
    (Cert.Pre_down_ok.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_down_ok [hPre_down_ok : Cert.Pre_down_ok.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_down_ok.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3)) (m ((c.tc : Thread Cert.DownReferenceIdeal.nD Cert.DownReferenceIdeal.τ).loc Cert.DownReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownIdeal_pre_down_ok [hDownIdeal : Cert.DownIdeal.Facts] [hPre_down_ok : Cert.Pre_down_ok.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_ok m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_DownReferenceIdeal_pre_down_ok [hDownReferenceIdeal : Cert.DownReferenceIdeal.Facts] [hPre_down_ok : Cert.Pre_down_ok.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_down_ok m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Down_DownIdeal : Prop :=
  True

def algebraic_DownIdeal_DownReferenceIdeal_pre_down_ok [hDownIdeal : Cert.DownIdeal.Facts] [hDownReferenceIdeal : Cert.DownReferenceIdeal.Facts] [hPre_down_ok : Cert.Pre_down_ok.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal_down_ok m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1_0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hPre_inputs_ok : Cert.Pre_inputs_ok.Facts) (hPre_down_ok : Cert.Pre_down_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ quiescent_Down (hDown := hDown)
    ∧ quiescent_DownIdeal (hDownIdeal := hDownIdeal)
    ∧ quiescent_DownIdeal_pre_down_ok (hDownIdeal := hDownIdeal) (hPre_down_ok := hPre_down_ok)
    ∧ quiescent_DownReferenceIdeal (hDownReferenceIdeal := hDownReferenceIdeal)
    ∧ quiescent_DownReferenceIdeal_pre_down_ok (hDownReferenceIdeal := hDownReferenceIdeal) (hPre_down_ok := hPre_down_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
    ∧ preserves_Down_DownIdeal
    ∧ algebraic_DownIdeal_DownReferenceIdeal_pre_down_ok (hDownIdeal := hDownIdeal) (hDownReferenceIdeal := hDownReferenceIdeal) (hPre_down_ok := hPre_down_ok)
-- ==== Pre_down_ok.lean ====
abbrev S256x2560 : Shape := ⟨2, ![256, 2560]⟩
abbrev S256x6912 : Shape := ⟨2, ![256, 6912]⟩
abbrev S6912x2560 : Shape := ⟨2, ![6912, 2560]⟩
abbrev S216x2560 : Shape := ⟨2, ![216, 2560]⟩
abbrev S2560 : Shape := ⟨1, ![2560]⟩
abbrev S_ : Shape := ⟨0, ![]⟩

class Facts : Prop where
  bcast_S_S216x2560 : S_.BroadcastsInDim S216x2560 (![] : Fin 0 → Fin S216x2560.rank)
  reducesTo_S216x2560_S_d0_1 : S216x2560.ReducesTo [0, 1] S_
  h_S_ : 0 < S_.numel

variable [Facts]

def fn {F : FTy → Type} [FloatOps F] (main_arg0 : FVec F S256x2560 .bf16) (main_arg1 : FVec F S256x6912 .bf16) (main_arg2 : FVec F S6912x2560 .fp8e4m3) (main_arg3 : IVec S216x2560 8) (main_arg4 : FVec F S2560 .f32) : IVec S_ 1 :=
  let main_c : IVec S_ 8 := constantI S_ 8 1#8
  let main_v0 : IVec S216x2560 8 := broadcastInDim S216x2560 ![] bcast_S_S216x2560 main_c
  let main_v1 : IVec S216x2560 1 := cmpi .uge main_arg3 main_v0
  let main_c_0 : IVec S_ 8 := constantI S_ 8 254#8
  let main_v2 : IVec S216x2560 8 := broadcastInDim S216x2560 ![] bcast_S_S216x2560 main_c_0
  let main_v3 : IVec S216x2560 1 := cmpi .ule main_arg3 main_v2
  let main_v4 : IVec S216x2560 1 := andi main_v1 main_v3
  let main_c_1 : IVec S_ 1 := constantI S_ 1 1#1
  let main_v5 : IVec S_ 1 := (fun x v => Host.reduce IntOp.andi x v reducesTo_S216x2560_S_d0_1 h_S_) main_v4 main_c_1
  main_v5
-- ==== Pre_inputs_ok.lean ====
abbrev S256x2560 : Shape := ⟨2, ![256, 2560]⟩
abbrev S2x128 : Shape := ⟨2, ![2, 128]⟩
abbrev S2560x151936 : Shape := ⟨2, ![2560, 151936]⟩
abbrev S80x151936 : Shape := ⟨2, ![80, 151936]⟩
abbrev S_ : Shape := ⟨0, ![]⟩

class Facts : Prop where
  bcast_S_S2x128 : S_.BroadcastsInDim S2x128 (![] : Fin 0 → Fin S2x128.rank)
  reducesTo_S2x128_S_d0_1 : S2x128.ReducesTo [0, 1] S_
  h_S_ : 0 < S_.numel
  bcast_S_S80x151936 : S_.BroadcastsInDim S80x151936 (![] : Fin 0 → Fin S80x151936.rank)
  reducesTo_S80x151936_S_d0_1 : S80x151936.ReducesTo [0, 1] S_

variable [Facts]

def fn {F : FTy → Type} [FloatOps F] (main_arg0 : FVec F S256x2560 .bf16) (main_arg1 : IVec S2x128 32) (main_arg2 : FVec F S2560x151936 .fp8e4m3) (main_arg3 : IVec S80x151936 8) : IVec S_ 1 :=
  let main_c : IVec S_ 32 := constantI S_ 32 0#32
  let main_v0 : IVec S2x128 32 := broadcastInDim S2x128 ![] bcast_S_S2x128 main_c
  let main_v1 : IVec S2x128 1 := cmpi .sge main_arg1 main_v0
  let main_c_0 : IVec S_ 32 := constantI S_ 32 151936#32
  let main_v2 : IVec S2x128 32 := broadcastInDim S2x128 ![] bcast_S_S2x128 main_c_0
  let main_v3 : IVec S2x128 1 := cmpi .slt main_arg1 main_v2
  let main_v4 : IVec S2x128 1 := andi main_v1 main_v3
  let main_c_1 : IVec S_ 1 := constantI S_ 1 1#1
  let main_v5 : IVec S_ 1 := (fun x v => Host.reduce IntOp.andi x v reducesTo_S2x128_S_d0_1 h_S_) main_v4 main_c_1
  let main_c_2 : IVec S_ 8 := constantI S_ 8 1#8
  let main_v6 : IVec S80x151936 8 := broadcastInDim S80x151936 ![] bcast_S_S80x151936 main_c_2
  let main_v7 : IVec S80x151936 1 := cmpi .uge main_arg3 main_v6
  let main_c_3 : IVec S_ 8 := constantI S_ 8 254#8
  let main_v8 : IVec S80x151936 8 := broadcastInDim S80x151936 ![] bcast_S_S80x151936 main_c_3
  let main_v9 : IVec S80x151936 1 := cmpi .ule main_arg3 main_v8
  let main_v10 : IVec S80x151936 1 := andi main_v7 main_v9
  let main_c_4 : IVec S_ 1 := constantI S_ 1 1#1
  let main_v11 : IVec S_ 1 := (fun x v => Host.reduce IntOp.andi x v reducesTo_S80x151936_S_d0_1 h_S_) main_v10 main_c_4
  let main_v12 : IVec S_ 1 := andi main_v5 main_v11
  main_v12
-- ==== Kernel.lean ====
abbrev S256x2560 : Shape := ⟨2, ![256, 2560]⟩
abbrev S2x128 : Shape := ⟨2, ![2, 128]⟩
abbrev S2560x151936 : Shape := ⟨2, ![2560, 151936]⟩
abbrev S80x151936 : Shape := ⟨2, ![80, 151936]⟩
abbrev S256x1 : Shape := ⟨2, ![256, 1]⟩
abbrev S2560x2048 : Shape := ⟨2, ![2560, 2048]⟩
abbrev S80x2048 : Shape := ⟨2, ![80, 2048]⟩
abbrev S256x128 : Shape := ⟨2, ![256, 128]⟩
abbrev S2560x512 : Shape := ⟨2, ![2560, 512]⟩
abbrev S1x512 : Shape := ⟨2, ![1, 512]⟩
abbrev S8x512 : Shape := ⟨2, ![8, 512]⟩
abbrev S16x512 : Shape := ⟨2, ![16, 512]⟩
abbrev S32x512 : Shape := ⟨2, ![32, 512]⟩
abbrev S256x512 : Shape := ⟨2, ![256, 512]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S256x2560, .bf16⟩
  | .hbm, ⟨1, _⟩ => ⟨S2x128, .i32⟩
  | .hbm, ⟨2, _⟩ => ⟨S2560x151936, .fp8e4m3⟩
  | .hbm, ⟨3, _⟩ => ⟨S80x151936, .i8⟩
  | .hbm, ⟨4, _⟩ => ⟨S256x1, .i32⟩
  | .hbm, ⟨5, _⟩ => ⟨S256x1, .f32⟩
  | .hbm, ⟨6, _⟩ => ⟨S256x1, .f32⟩
  | .local _ .vmem, ⟨0, _⟩ => ⟨S256x2560, .bf16⟩
  | .local _ .vmem, ⟨1, _⟩ => ⟨S256x1, .i32⟩
  | .local _ .vmem, ⟨2, _⟩ => ⟨S2560x2048, .fp8e4m3⟩
  | .local _ .vmem, ⟨3, _⟩ => ⟨S2560x2048, .fp8e4m3⟩
  | .local _ .vmem, ⟨4, _⟩ => ⟨S80x2048, .i8⟩
  | .local _ .vmem, ⟨5, _⟩ => ⟨S80x2048, .i8⟩
  | .local _ .vmem, ⟨6, _⟩ => ⟨S256x1, .f32⟩
  | .local _ .vmem, ⟨7, _⟩ => ⟨S256x1, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S80x2048, .i32⟩
  | _, _ => ⟨S256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![75], ![false]⟩

def k0_cond2 (i : grid0.Coords) : BitVec 1 :=
  let arg0 : BitVec 32 := BitVec.ofNat 32 (i 0).val
  let c74_i32 : BitVec 32 := 74#32
  let v3542 : BitVec 1 := Scalar.cmpi .eq arg0 c74_i32
  let v3543 : BitVec 32 := Scalar.extui v3542
  let c0_i32_687 : BitVec 32 := 0#32
  let v3544 : BitVec 1 := Scalar.cmpi .ne v3543 c0_i32_687
  v3544

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2560x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S256x2560 : Shape := ⟨2, ![256, 2560]⟩
abbrev S2x128 : Shape := ⟨2, ![2, 128]⟩
abbrev S2560x151936 : Shape := ⟨2, ![2560, 151936]⟩
abbrev S80x151936 : Shape := ⟨2, ![80, 151936]⟩
abbrev S80x32x151936 : Shape := ⟨3, ![80, 32, 151936]⟩
abbrev S80x1x151936 : Shape := ⟨3, ![80, 1, 151936]⟩
abbrev S256x151936 : Shape := ⟨2, ![256, 151936]⟩
abbrev S_ : Shape := ⟨0, ![]⟩
abbrev S256 : Shape := ⟨1, ![256]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩

abbrev nBuf : Space → Nat
  | .hbm => 52
  | .vmem => 3
  | .smem => 0
  | _ => 0

abbrev bufTy : (tb : Table) → Fin (tcTables nBuf tb) → BufTy
  | .hbm, ⟨0, _⟩ => ⟨S256x2560, .bf16⟩
  | .hbm, ⟨1, _⟩ => ⟨S2x128, .i32⟩
  | .hbm, ⟨2, _⟩ => ⟨S2560x151936, .fp8e4m3⟩
  | .hbm, ⟨3, _⟩ => ⟨S80x151936, .i8⟩
  | .hbm, ⟨4, _⟩ => ⟨S2560x151936, .bf16⟩
  | .hbm, ⟨5, _⟩ => ⟨S256x151936, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S256x151936, .f32⟩
  | .hbm, ⟨10, _⟩ => ⟨S256x151936, .f32⟩
  | .hbm, ⟨11, _⟩ => ⟨S256x151936, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256, .f32⟩
  | .hbm, ⟨18, _⟩ => ⟨S256, .i32⟩
  | .hbm, ⟨19, _⟩ => ⟨S256x1, .i32⟩
  | .hbm, ⟨20, _⟩ => ⟨S_, .i32⟩
  | .hbm, ⟨21, _⟩ => ⟨S256x1, .i32⟩
  | .hbm, ⟨22, _⟩ => ⟨S256x1, .i1⟩
  | .hbm, ⟨23, _⟩ => ⟨S_, .i32⟩
  | .hbm, ⟨24, _⟩ => ⟨S256x1, .i32⟩
  | .hbm, ⟨25, _⟩ => ⟨S256x1, .i32⟩
  | .hbm, ⟨26, _⟩ => ⟨S256x1, .i32⟩
  | .hbm, ⟨27, _⟩ => ⟨S256x1x1, .i32⟩
  | .hbm, ⟨28, _⟩ => ⟨S1, .i32⟩
  | .hbm, ⟨29, _⟩ => ⟨S_, .i32⟩
  | .hbm, ⟨30, _⟩ => ⟨S256x1x1, .i32⟩
  | .hbm, ⟨31, _⟩ => ⟨S256x1x1, .i1⟩
  | .hbm, ⟨32, _⟩ => ⟨S1x1x1, .i32⟩
  | .hbm, ⟨33, _⟩ => ⟨S256x1x1, .i32⟩
  | .hbm, ⟨34, _⟩ => ⟨S256x1x1, .i1⟩
  | .hbm, ⟨35, _⟩ => ⟨S256x1x1, .i1⟩
  | .hbm, ⟨36, _⟩ => ⟨S_, .i1⟩
  | .hbm, ⟨37, _⟩ => ⟨S256x1, .i1⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256, .f32⟩
  | .hbm, ⟨43, _⟩ => ⟨S256, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256x1, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S256x1, .f32⟩
  | .local _ .vmem, ⟨0, _⟩ => ⟨S2560x151936, .fp8e4m3⟩
  | .local _ .vmem, ⟨1, _⟩ => ⟨S80x151936, .i8⟩
  | .local _ .vmem, ⟨2, _⟩ => ⟨S2560x151936, .bf16⟩
  | _, _ => ⟨S256x2560, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_1 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2560x151936 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x151936 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x151936 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Down.lean ====
abbrev S256x2560 : Shape := ⟨2, ![256, 2560]⟩
abbrev S256x6912 : Shape := ⟨2, ![256, 6912]⟩
abbrev S6912x2560 : Shape := ⟨2, ![6912, 2560]⟩
abbrev S216x2560 : Shape := ⟨2, ![216, 2560]⟩
abbrev S2560 : Shape := ⟨1, ![2560]⟩
abbrev S1x2560 : Shape := ⟨2, ![1, 2560]⟩
abbrev S256x80 : Shape := ⟨2, ![256, 80]⟩
abbrev S6912x512 : Shape := ⟨2, ![6912, 512]⟩
abbrev S216x512 : Shape := ⟨2, ![216, 512]⟩
abbrev S1x512 : Shape := ⟨2, ![1, 512]⟩
abbrev S8x512 : Shape := ⟨2, ![8, 512]⟩
abbrev S16x512 : Shape := ⟨2, ![16, 512]⟩
abbrev S32x512 : Shape := ⟨2, ![32, 512]⟩
abbrev S256x512 : Shape := ⟨2, ![256, 512]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S32x128x1 : Shape := ⟨3, ![32, 128, 1]⟩
abbrev S32x80 : Shape := ⟨2, ![32, 80]⟩

abbrev nBuf : Space → Nat
  | .hbm => 10
  | .vmem => 13
  | .smem => 0
  | _ => 0

abbrev bufTy : (tb : Table) → Fin (tcTables nBuf tb) → BufTy
  | .hbm, ⟨0, _⟩ => ⟨S256x2560, .bf16⟩
  | .hbm, ⟨1, _⟩ => ⟨S256x6912, .bf16⟩
  | .hbm, ⟨2, _⟩ => ⟨S6912x2560, .fp8e4m3⟩
  | .hbm, ⟨3, _⟩ => ⟨S216x2560, .i8⟩
  | .hbm, ⟨4, _⟩ => ⟨S2560, .f32⟩
  | .hbm, ⟨5, _⟩ => ⟨S1x2560, .f32⟩
  | .hbm, ⟨6, _⟩ => ⟨S256x2560, .bf16⟩
  | .hbm, ⟨7, _⟩ => ⟨S256x2560, .fp8e4m3⟩
  | .hbm, ⟨8, _⟩ => ⟨S256x80, .f32⟩
  | .hbm, ⟨9, _⟩ => ⟨S256x2560, .bf16⟩
  | .local _ .vmem, ⟨0, _⟩ => ⟨S256x2560, .bf16⟩
  | .local _ .vmem, ⟨1, _⟩ => ⟨S256x6912, .bf16⟩
  | .local _ .vmem, ⟨2, _⟩ => ⟨S6912x512, .fp8e4m3⟩
  | .local _ .vmem, ⟨3, _⟩ => ⟨S6912x512, .fp8e4m3⟩
  | .local _ .vmem, ⟨4, _⟩ => ⟨S216x512, .i8⟩
  | .local _ .vmem, ⟨5, _⟩ => ⟨S216x512, .i8⟩
  | .local _ .vmem, ⟨6, _⟩ => ⟨S1x2560, .f32⟩
  | .local _ .vmem, ⟨7, _⟩ => ⟨S256x2560, .bf16⟩
  | .local _ .vmem, ⟨8, _⟩ => ⟨S256x2560, .fp8e4m3⟩
  | .local _ .vmem, ⟨9, _⟩ => ⟨S256x80, .f32⟩
  | .local _ .vmem, ⟨10, _⟩ => ⟨S256x2560, .bf16⟩
  | .local _ .vmem, ⟨11, _⟩ => ⟨S256x2560, .f32⟩
  | .local _ .vmem, ⟨12, _⟩ => ⟨S216x512, .i32⟩
  | _, _ => ⟨S256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![5], ![false]⟩

def k0_mult1 (i : grid0.Coords) : BitVec 32 :=
  let arg0 : BitVec 32 := BitVec.ofNat 32 (i 0).val
  let c512_i32 : BitVec 32 := 512#32
  let v2174 : BitVec 32 := Scalar.muli arg0 c512_i32
  v2174
def k0_off1 (i : grid0.Coords) : Fin 2 → Nat :=
  let c0_224 : Index := 0#32
  let arg0 : BitVec 32 := BitVec.ofNat 32 (i 0).val
  let c512_i32 : BitVec 32 := 512#32
  let v2174 : BitVec 32 := Scalar.muli arg0 c512_i32
  let v2175 : BitVec 32 := v2174
  let v2176 : Index := Scalar.indexCast v2175
  ![0, v2176.toNat]
def k0_cond1 (i : grid0.Coords) : BitVec 1 :=
  let arg0 : BitVec 32 := BitVec.ofNat 32 (i 0).val
  let c4_i32 : BitVec 32 := 4#32
  let v2180 : BitVec 1 := Scalar.cmpi .eq arg0 c4_i32
  let v2181 : BitVec 32 := Scalar.extui v2180
  let c0_i32 : BitVec 32 := 0#32
  let v2182 : BitVec 1 := Scalar.cmpi .ne v2181 c0_i32
  v2182

@[reducible] def k0_t1_loop : Scf.Loop 32 :=
  let c0_i32_225 : BitVec 32 := 0#32
  let c8_i32 : BitVec 32 := 8#32
  let v2183 : BitVec 32 := Scalar.addi c0_i32_225 c8_i32
  let c1_i32 : BitVec 32 := 1#32
  ⟨c0_i32_225, v2183, c1_i32⟩
def k0_mult2 (k0_t1 : Fin k0_t1_loop.trips) : BitVec 32 :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  v2186
def k0_off2 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v2188 : Index := Scalar.indexCast v2187
  let c0_229 : Index := 0#32
  ![v2188.toNat, 0]
def k0_off3 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v2364 : Index := Scalar.indexCast v2187
  let c0_280 : Index := 0#32
  ![v2364.toNat, 0]
def k0_off4 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v2519 : Index := Scalar.indexCast v2187
  let c128_328 : Index := 128#32
  ![v2519.toNat, 128]
def k0_off5 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v2674 : Index := Scalar.indexCast v2187
  let c256 : Index := 256#32
  ![v2674.toNat, 256]
def k0_off6 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v2829 : Index := Scalar.indexCast v2187
  let c384 : Index := 384#32
  ![v2829.toNat, 384]
def k0_off7 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v2984 : Index := Scalar.indexCast v2187
  let c512 : Index := 512#32
  ![v2984.toNat, 512]
def k0_off8 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v3139 : Index := Scalar.indexCast v2187
  let c640 : Index := 640#32
  ![v3139.toNat, 640]
def k0_off9 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v3294 : Index := Scalar.indexCast v2187
  let c768 : Index := 768#32
  ![v3294.toNat, 768]
def k0_off10 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v3449 : Index := Scalar.indexCast v2187
  let c896 : Index := 896#32
  ![v3449.toNat, 896]
def k0_off11 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v3604 : Index := Scalar.indexCast v2187
  let c1024 : Index := 1024#32
  ![v3604.toNat, 1024]
def k0_off12 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v3759 : Index := Scalar.indexCast v2187
  let c1152 : Index := 1152#32
  ![v3759.toNat, 1152]
def k0_off13 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v3914 : Index := Scalar.indexCast v2187
  let c1280 : Index := 1280#32
  ![v3914.toNat, 1280]
def k0_off14 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v4069 : Index := Scalar.indexCast v2187
  let c1408 : Index := 1408#32
  ![v4069.toNat, 1408]
def k0_off15 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v4224 : Index := Scalar.indexCast v2187
  let c1536 : Index := 1536#32
  ![v4224.toNat, 1536]
def k0_off16 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v4379 : Index := Scalar.indexCast v2187
  let c1664 : Index := 1664#32
  ![v4379.toNat, 1664]
def k0_off17 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v4534 : Index := Scalar.indexCast v2187
  let c1792 : Index := 1792#32
  ![v4534.toNat, 1792]
def k0_off18 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v4689 : Index := Scalar.indexCast v2187
  let c1920 : Index := 1920#32
  ![v4689.toNat, 1920]
def k0_off19 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v4844 : Index := Scalar.indexCast v2187
  let c2048 : Index := 2048#32
  ![v4844.toNat, 2048]
def k0_off20 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v4999 : Index := Scalar.indexCast v2187
  let c2176 : Index := 2176#32
  ![v4999.toNat, 2176]
def k0_off21 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v5154 : Index := Scalar.indexCast v2187
  let c2304 : Index := 2304#32
  ![v5154.toNat, 2304]
def k0_off22 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v5309 : Index := Scalar.indexCast v2187
  let c2432 : Index := 2432#32
  ![v5309.toNat, 2432]
def k0_off23 (k0_t1 : Fin k0_t1_loop.trips) : Fin 2 → Nat :=
  let c0_i32_228 : BitVec 32 := 0#32
  let c0_i32_225 : BitVec 32 := 0#32
  let c1_i32 : BitVec 32 := 1#32
  let arg12 : BitVec 32 := Scf.iv c0_i32_225 c1_i32 k0_t1
  let c1_i32_227 : BitVec 32 := 1#32
  let v2184 : BitVec 32 := Scalar.muli arg12 c1_i32_227
  let v2185 : BitVec 32 := Scalar.addi c0_i32_228 v2184
  let c32_i32 : BitVec 32 := 32#32
  let v2186 : BitVec 32 := Scalar.muli v2185 c32_i32
  let v2187 : BitVec 32 := v2186
  let v5323 : Index := Scalar.indexCast v2187
  let c0_1164 : Index := 0#32
  ![v5323.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6912x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S216x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownReferenceIdeal.lean ====
abbrev S256x2560 : Shape := ⟨2, ![256, 2560]⟩
abbrev S256x6912 : Shape := ⟨2, ![256, 6912]⟩
abbrev S6912x2560 : Shape := ⟨2, ![6912, 2560]⟩
abbrev S216x2560 : Shape := ⟨2, ![216, 2560]⟩
abbrev S2560 : Shape := ⟨1, ![2560]⟩
abbrev S216x32x2560 : Shape := ⟨3, ![216, 32, 2560]⟩
abbrev S216x1x2560 : Shape := ⟨3, ![216, 1, 2560]⟩

abbrev nBuf : Space → Nat
  | .hbm => 10
  | .vmem => 3
  | .smem => 0
  | _ => 0

abbrev bufTy : (tb : Table) → Fin (tcTables nBuf tb) → BufTy
  | .hbm, ⟨0, _⟩ => ⟨S256x2560, .bf16⟩
  | .hbm, ⟨1, _⟩ => ⟨S256x6912, .bf16⟩
  | .hbm, ⟨2, _⟩ => ⟨S6912x2560, .fp8e4m3⟩
  | .hbm, ⟨3, _⟩ => ⟨S216x2560, .i8⟩
  | .hbm, ⟨4, _⟩ => ⟨S2560, .f32⟩
  | .hbm, ⟨5, _⟩ => ⟨S6912x2560, .bf16⟩
  | .hbm, ⟨6, _⟩ => ⟨S256x2560, .f32⟩
  | .hbm, ⟨7, _⟩ => ⟨S256x2560, .f32⟩
  | .hbm, ⟨8, _⟩ => ⟨S256x2560, .f32⟩
  | .hbm, ⟨9, _⟩ => ⟨S256x2560, .bf16⟩
  | .local _ .vmem, ⟨0, _⟩ => ⟨S6912x2560, .fp8e4m3⟩
  | .local _ .vmem, ⟨1, _⟩ => ⟨S216x2560, .i8⟩
  | .local _ .vmem, ⟨2, _⟩ => ⟨S6912x2560, .bf16⟩
  | _, _ => ⟨S256x2560, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6912x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S216x2560 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Head.Conds.lean ====
/- The head kernel: when each branch of its body is taken, and the buffers the body works on. -/
module

public import proofs.«01_k».proof.Proof.Gen.KernelIdeal.Frame
public import proofs.«01_k».proof.Proof.Gen.KernelIdeal.Skeleton

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (the reset of the running maximum, sum and target logit), from the grid coordinates. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 75 = 0 :=
  (fun t => by
    have ht : t.val < 75 := Nat.lt_of_lt_of_eq t.isLt N_0
    have e0 : (grid0.coords t 0).val = t.val / 1 % 75 := Pipeline.Grid.coords_val t 0 (by decide) rfl
    simp only [cond0_0, e0]
    word_cmp
   : ∀ t : Fin grid0.N, cond0_0 (grid0.coords t) ↔ t.val % 75 = 0)

/-- The condition of the body's `scf.if` 1 (the final reduction over the lanes), from the grid coordinates. -/
abbrev cond0_1 (i : grid0.Coords) : Prop := k0_cond2 i = 1#1
/-- It holds at the last point only — by arithmetic of the point. -/
theorem hcond0_1 : ∀ t : Fin cfg0.N, cond0_1 (grid0.coords t) ↔ t.val % 75 = 74 :=
  (fun t => by
    have ht : t.val < 75 := Nat.lt_of_lt_of_eq t.isLt N_0
    have e0 : (grid0.coords t 0).val = t.val / 1 % 75 := Pipeline.Grid.coords_val t 0 (by decide) rfl
    simp only [cond0_1, k0_cond2, e0]
    word_cmp
   : ∀ t : Fin grid0.N, cond0_1 (grid0.coords t) ↔ t.val % 75 = 74)

/-! ## The buffers the body works on -/

/-- Each window's current staging memref at point `t` and its wholeness. -/
abbrev ms0_0 (t : Fin cfg0.N) : Memref sig .tc .vmem S256x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S80x2048 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S80x2048 .i32 := Memref.whole cc0_scratch3
/-- The scratch `arg7` the kernel carries between points, as a view: what it holds is stated through it. -/
abbrev VS0_0 : View sig .tc .vmem S256x128 .f32 := scM0_0.view
/-- The scratch `arg8` the kernel carries between points, as a view: what it holds is stated through it. -/
abbrev VS0_1 : View sig .tc .vmem S256x128 .f32 := scM0_1.view
/-- The scratch `arg9` the kernel carries between points, as a view: what it holds is stated through it. -/
abbrev VS0_2 : View sig .tc .vmem S256x128 .f32 := scM0_2.view

/-- What the pipeline keeps beside its windows, as the four scratch operands owned at some contents and the
    random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Head

end
-- ==== Proof.Head.First.lean ====
/- The head kernel's body run at the first vocabulary block. -/
module

public import proofs.«01_k».proof.Proof.Head.Conds

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2240000 in
/-- What the body's stores leave in each buffer, as pieces (last first), at the first block: the running values are reset, then one block is accumulated;
    with the proof that, run on whole buffers holding `x0` … `x3`, the body ends with exactly those pieces written and
    its inputs as they were. -/
noncomputable def runFirst (c : Dev nD) (i : grid0.Coords) (arg1 : Memref sig .tc .vmem S256x2560 .bf16) (harg1 : arg1.IsWhole) (arg2 : Memref sig .tc .vmem S256x1 .i32) (harg2 : arg2.IsWhole) (arg3 : Memref sig .tc .vmem S2560x2048 .fp8e4m3) (harg3 : arg3.IsWhole) (arg4 : Memref sig .tc .vmem S80x2048 .i8) (harg4 : arg4.IsWhole) (arg5 : Memref sig .tc .vmem S256x1 .f32) (harg5 : arg5.IsWhole) (arg6 : Memref sig .tc .vmem S256x1 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S80x2048 .i32) (harg10 : arg10.IsWhole) (hc0 : cond0_0 i) (hc1 : ¬cond0_1 i)
    (x0 : Vec F S256x2560 .bf16) (x1 : Vec F S256x1 .i32) (x2 : Vec F S2560x2048 .fp8e4m3) (x3 : Vec F S80x2048 .i8) :
    Σ' (L4 : List (View.Piece (Elt F) S256x1 .f32)), Σ' (L5 : List (View.Piece (Elt F) S256x1 .f32)), Σ' (LS0 : List (View.Piece (Elt F) S256x128 .f32)), Σ' (LS1 : List (View.Piece (Elt F) S256x128 .f32)), Σ' (LS2 : List (View.Piece (Elt F) S256x128 .f32)), { LT3 : List (View.Piece (Elt F) S80x2048 .i32) //
      ∀ (xi4 : Vec F S256x1 .f32) (xi5 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LT3)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10) K } := by
  refine ⟨[], [], ?_, ?_, ?_, ?_, fun xi4 xi5 E K => ?run⟩
  case run =>
    simp only [cc0_head_eq_skeleton]; unfold cc0_head_skel
    simp only [k0_part73_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    isplitl [HS2]; · iexists _; iexact HS2
    iexists _; iexact HS3

end Cert.KernelIdeal.Head

end
-- ==== Proof.Head.Middle.lean ====
/- The head kernel's body run at a vocabulary block that is neither the first nor the last. -/
module

public import proofs.«01_k».proof.Proof.Head.First

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2204000 in
/-- What the body's stores leave in each buffer, as pieces (last first), at a middle block: one block is accumulated onto the running values `xs0`, `xs1`, `xs2`;
    with the proof that, run on whole buffers holding `x0` … `x3`, the body ends with exactly those pieces written and
    its inputs as they were. -/
noncomputable def runMiddle (c : Dev nD) (i : grid0.Coords) (arg1 : Memref sig .tc .vmem S256x2560 .bf16) (harg1 : arg1.IsWhole) (arg2 : Memref sig .tc .vmem S256x1 .i32) (harg2 : arg2.IsWhole) (arg3 : Memref sig .tc .vmem S2560x2048 .fp8e4m3) (harg3 : arg3.IsWhole) (arg4 : Memref sig .tc .vmem S80x2048 .i8) (harg4 : arg4.IsWhole) (arg5 : Memref sig .tc .vmem S256x1 .f32) (harg5 : arg5.IsWhole) (arg6 : Memref sig .tc .vmem S256x1 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S80x2048 .i32) (harg10 : arg10.IsWhole) (hc0 : ¬cond0_0 i) (hc1 : ¬cond0_1 i)
    (x0 : Vec F S256x2560 .bf16) (x1 : Vec F S256x1 .i32) (x2 : Vec F S2560x2048 .fp8e4m3) (x3 : Vec F S80x2048 .i8) (xs0 : Vec F S256x128 .f32) (xs1 : Vec F S256x128 .f32) (xs2 : Vec F S256x128 .f32) :
    Σ' (L4 : List (View.Piece (Elt F) S256x1 .f32)), Σ' (L5 : List (View.Piece (Elt F) S256x1 .f32)), Σ' (LS0 : List (View.Piece (Elt F) S256x128 .f32)), Σ' (LS1 : List (View.Piece (Elt F) S256x128 .f32)), Σ' (LS2 : List (View.Piece (Elt F) S256x128 .f32)), { LT3 : List (View.Piece (Elt F) S80x2048 .i32) //
      ∀ (xi4 : Vec F S256x1 .f32) (xi5 : Vec F S256x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1 ∗ owns (c : Thread nD τ) arg9 fullShare xs2 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LT3)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10) K } := by
  refine ⟨[], [], ?_, ?_, ?_, ?_, fun xi4 xi5 E K => ?run⟩
  case run =>
    simp only [cc0_head_eq_skeleton]; unfold cc0_head_skel
    simp only [k0_part73_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    isplitl [HS2]; · iexists _; iexact HS2
    iexists _; iexact HS3

end Cert.KernelIdeal.Head

end
-- ==== Proof.Head.Last.lean ====
/- The head kernel's body run at the last vocabulary block. -/
module

public import proofs.«01_k».proof.Proof.Head.Middle

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2244000 in
/-- What the body's stores leave in each buffer, as pieces (last first), at the last block: one block is accumulated onto `xs0`, `xs1`, `xs2`, then the lanes are reduced into the two outputs;
    with the proof that, run on whole buffers holding `x0` … `x3`, the body ends with exactly those pieces written and
    its inputs as they were. -/
noncomputable def runLast (c : Dev nD) (i : grid0.Coords) (arg1 : Memref sig .tc .vmem S256x2560 .bf16) (harg1 : arg1.IsWhole) (arg2 : Memref sig .tc .vmem S256x1 .i32) (harg2 : arg2.IsWhole) (arg3 : Memref sig .tc .vmem S2560x2048 .fp8e4m3) (harg3 : arg3.IsWhole) (arg4 : Memref sig .tc .vmem S80x2048 .i8) (harg4 : arg4.IsWhole) (arg5 : Memref sig .tc .vmem S256x1 .f32) (harg5 : arg5.IsWhole) (arg6 : Memref sig .tc .vmem S256x1 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S80x2048 .i32) (harg10 : arg10.IsWhole) (hc0 : ¬cond0_0 i) (hc1 : cond0_1 i)
    (x0 : Vec F S256x2560 .bf16) (x1 : Vec F S256x1 .i32) (x2 : Vec F S2560x2048 .fp8e4m3) (x3 : Vec F S80x2048 .i8) (xs0 : Vec F S256x128 .f32) (xs1 : Vec F S256x128 .f32) (xs2 : Vec F S256x128 .f32) :
    Σ' (L4 : List (View.Piece (Elt F) S256x1 .f32)), Σ' (L5 : List (View.Piece (Elt F) S256x1 .f32)), Σ' (LS0 : List (View.Piece (Elt F) S256x128 .f32)), Σ' (LS1 : List (View.Piece (Elt F) S256x128 .f32)), Σ' (LS2 : List (View.Piece (Elt F) S256x128 .f32)), { LT3 : List (View.Piece (Elt F) S80x2048 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LT3)) -∗ K ⟨⟩))
          ⊢ wp frame (wpE (defs₀ (F := F)) Variants.none c none) E (cc0_head i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_head_eq_skeleton]; unfold cc0_head_skel
    simp only [k0_part73_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1; obtain rfl := harg9.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    isplitl [HS1]; · iexists _; iexact HS1
    isplitl [HS2]; · iexists _; iexact HS2
    iexists _; iexact HS3

end Cert.KernelIdeal.Head

end
-- ==== Proof.Head.Step.lean ====
/- One block of the head kernel as plain functions of its loads. -/
module

public import proofs.«01_k».proof.Proof.Gen.KernelIdeal.Frame
public import proofs.«01_k».proof.Proof.Gen.KernelIdeal.Skeleton

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One vocabulary block of the head kernel, as functions of what it loads -/

/-- Rows `32 b … 32 b + 31` are inside the weight block. -/
theorem slices_rows (b : ℕ) (hb : b < 80) : S2560x512.Slices ![32 * b, 0] S32x512 :=
  ⟨rfl, fun a => by
    fin_cases a
    · show 32 * b + 32 ≤ 2560; omega
    · show 0 + 512 ≤ 512; omega⟩

/-- Each half of a block of 32 rows is inside it. -/
theorem slices_half (h : ℕ) (hh : h < 2) : S32x512.Slices ![16 * h, 0] S16x512 :=
  ⟨rfl, fun a => by
    fin_cases a
    · show 16 * h + 16 ≤ 32; omega
    · show 0 + 512 ≤ 512; omega⟩

/-- The scale words of one block of rows, one row of words over eight, read as sixteen rows of half-width floats. -/
def scaleRows (s : Vec F S1x512 .i32) : FVec F S16x512 .bf16 :=
  bitcastToFloat .bf16 (bitcast S16x512 16 (broadcastTo S8x512 (shapeCast S1x512 s shapeCasts_S1x512_S1x512)
    broadcasts_S1x512_S8x512) bitcasts_S8x512_w32_S16x512_w16)

/-- Sixteen rows of the widened weight chunk: half `k % 2` of block `k / 2`, each code times its block's scale. -/
def part (w : Vec F S2560x512 .fp8e4m3) (sc : Fin 80 → Vec F S1x512 .i32) (k : Fin 160) : FVec F S16x512 .bf16 :=
  mulf (extractStridedSlice S16x512 ![16 * (k.val % 2), 0]
      (extf .bf16 (extractStridedSlice S32x512 ![32 * (k.val / 2), 0] w (slices_rows _ (by omega))) bitsLt_fp8e4m3_bf16)
      (slices_half _ (by omega)))
    (scaleRows (sc ⟨k.val / 2, by omega⟩))

/-- The shapes of the 160 parts add up to the chunk. -/
theorem concat_parts (w : Vec F S2560x512 .fp8e4m3) (sc : Fin 80 → Vec F S1x512 .i32) :
    Shape.Concatenates ((List.ofFn fun k => (⟨S16x512, part w sc k⟩ : (s : Shape) × (s.Idx → F .bf16))).map (·.1)) S2560x512 0 := by
  rw [List.map_ofFn]
  exact (by decide +kernel : Shape.Concatenates (List.ofFn fun _ : Fin 160 => S16x512) S2560x512 0)

/-- The widened weight chunk. -/
def widened (w : Vec F S2560x512 .fp8e4m3) (sc : Fin 80 → Vec F S1x512 .i32) : FVec F S2560x512 .bf16 :=
  concatenate S2560x512 0 (List.ofFn fun k => ⟨S16x512, part w sc k⟩) (concat_parts w sc)

/-- The logits of one chunk: the rows times the widened weight chunk. -/
def logits (x : Vec F S256x2560 .bf16) (w : Vec F S2560x512 .fp8e4m3) (sc : Fin 80 → Vec F S1x512 .i32) : FVec F S256x512 .f32 :=
  matmul dot_S256x2560_S2560x512_S256x512_1_0_0_1_n_n none x (widened w sc) (constant S256x512 .f32 0x00000000#32)

/-- The lane number at every entry. -/
def lanes : IVec S256x128 32 := iota .tc S256x128 32 [1] iota_S256x128_d1_w32

/-- The first column of chunk `j` of block `n`. -/
def base (n : ℕ) (j : ℕ) : BitVec 32 := Scalar.addi (Scalar.muli (BitVec.ofNat 32 n) 2048#32) (BitVec.ofNat 32 (512 * j))

/-- The first column of the `k`-th group of 128 lanes of a chunk beginning at `b`. -/
def col (b : BitVec 32) (k : ℕ) : BitVec 32 := Scalar.addi b (BitVec.ofNat 32 (128 * k))

/-- 128 lanes are inside the chunk. -/
theorem slices_lanes (k : ℕ) (hk : k < 4) : S256x512.Slices ![0, 128 * k] S256x128 :=
  ⟨rfl, fun a => by
    fin_cases a
    · show 0 + 256 ≤ 256; omega
    · show 128 * k + 128 ≤ 512; omega⟩

/-- The `k`-th group of 128 lanes of a chunk of logits, −∞ at the columns past the vocabulary. -/
def masked (lg : FVec F S256x512 .f32) (b : BitVec 32) (k : Fin 4) : FVec F S256x128 .f32 :=
  select (cmpi .slt lanes (broadcast S256x128 (Scalar.subi 151936#32 (col b k.val))))
    (extractStridedSlice S256x128 ![0, 128 * k.val] lg (slices_lanes k.val k.isLt))
    (broadcast S256x128 (Scalar.ofBits .f32 0xFF800000#32))

/-- The target less the lane, at every entry. -/
def targetLess (x1 : Vec F S256x1 .i32) : IVec S256x128 32 :=
  subi (broadcastTo S256x128 (shapeCast S256x1 x1 shapeCasts_S256x1_S256x1) broadcasts_S256x1_S256x128) lanes

/-- The running target logit after one chunk. -/
def zChunk (tl : IVec S256x128 32) (lg : FVec F S256x512 .f32) (b : BitVec 32) (z : Vec F S256x128 .f32) : FVec F S256x128 .f32 :=
  shapeCast S256x128
    (select (cmpi .eq tl (broadcast S256x128 (col b 3))) (masked lg b 3)
      (select (cmpi .eq tl (broadcast S256x128 (col b 2))) (masked lg b 2)
        (select (cmpi .eq tl (broadcast S256x128 (col b 1))) (masked lg b 1)
          (select (cmpi .eq tl (broadcast S256x128 (col b 0))) (masked lg b 0) z)))) shapeCasts_S256x128_S256x128

/-- The running maximum after one chunk. -/
def mChunk (lg : FVec F S256x512 .f32) (b : BitVec 32) (m : Vec F S256x128 .f32) : FVec F S256x128 .f32 :=
  maximumf (maximumf (maximumf (maximumf m (masked lg b 0)) (masked lg b 1)) (masked lg b 2)) (masked lg b 3)

/-- A maximum with 0 in place of −∞. -/
def safe (m : FVec F S256x128 .f32) : FVec F S256x128 .f32 :=
  select (cmpf .oeq m (broadcast S256x128 (Scalar.ofBits .f32 0xFF800000#32))) (broadcast S256x128 (Scalar.ofBits .f32 0x00000000#32)) m

/-- The running sum of exponentials after one chunk. -/
def lChunk (lg : FVec F S256x512 .f32) (b : BitVec 32) (m l : Vec F S256x128 .f32) : FVec F S256x128 .f32 :=
  shapeCast S256x128
    (addf (addf (addf (addf (mulf l (exp (subf m (safe (mChunk lg b m)))))
      (exp (subf (masked lg b 0) (safe (mChunk lg b m))))) (exp (subf (masked lg b 1) (safe (mChunk lg b m)))))
      (exp (subf (masked lg b 2) (safe (mChunk lg b m))))) (exp (subf (masked lg b 3) (safe (mChunk lg b m)))))
    shapeCasts_S256x128_S256x128

/-- The running maximum as it is stored. -/
def mKept (m : FVec F S256x128 .f32) : FVec F S256x128 .f32 := shapeCast S256x128 m shapeCasts_S256x128_S256x128

end Cert.KernelIdeal.Head

end
-- ==== Proof.Head.Block.lean ====
/- One block of the head kernel on what it carries, and the stores that leave it. -/
module

public import proofs.«01_k».proof.Proof.Head.Step
public import Idealize.ShloMosaic.Lib.VecWindow

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The loads of a block -/

/-- Chunk `j`'s columns are inside the weight block. -/
theorem inb_chunk (j : Fin 4) : ∀ a, (![0, 512 * j.val] : Fin 2 → ℕ) a + S2560x512.size a ≤ S2560x2048.size a := by
  intro a; fin_cases a
  · show 0 + 2560 ≤ 2560; omega
  · show 512 * j.val + 512 ≤ 2048; omega

/-- Row `b` of chunk `j`'s columns is inside the scale words. -/
theorem inb_words (j : Fin 4) (b : Fin 80) : ∀ a, (![b.val, 512 * j.val] : Fin 2 → ℕ) a + S1x512.size a ≤ S80x2048.size a := by
  intro a; fin_cases a
  · show b.val + 1 ≤ 80; omega
  · show 512 * j.val + 512 ≤ 2048; omega

/-- Chunk `j` of the weight block. -/
def wChunk (x2 : Vec F S2560x2048 .fp8e4m3) (j : Fin 4) : Vec F S2560x512 .fp8e4m3 :=
  VecWindow.window x2 ![0, 512 * j.val] S2560x512.size (inb_chunk j)

/-- Row `b` of chunk `j` of the scale words of the scale block. -/
def sChunk (x3 : Vec F S80x2048 .i8) (j : Fin 4) (b : Fin 80) : Vec F S1x512 .i32 :=
  VecWindow.window (k0_pay9 x3) ![b.val, 512 * j.val] S1x512.size (inb_words j b)

/-- The logits of chunk `j` of a block. -/
def lg (x0 : Vec F S256x2560 .bf16) (x2 : Vec F S2560x2048 .fp8e4m3) (x3 : Vec F S80x2048 .i8) (j : Fin 4) : FVec F S256x512 .f32 :=
  logits x0 (wChunk x2 j) (sChunk x3 j)

/-- What the kernel carries from block to block: the running maximum, the running sum and the running target logit. -/
abbrev Carry (F : FTy → Type) : Type := Vec F S256x128 .f32 × Vec F S256x128 .f32 × Vec F S256x128 .f32

/-- One chunk's effect on what is carried. -/
def chunkStep (x1 : Vec F S256x1 .i32) (g : FVec F S256x512 .f32) (b : BitVec 32) (s : Carry F) : Carry F :=
  (mKept (mChunk g b s.1), lChunk g b s.1 s.2.1, zChunk (targetLess x1) g b s.2.2)

/-- One block's effect on what is carried: its four chunks in turn. -/
def blockStep (n : ℕ) (x0 : Vec F S256x2560 .bf16) (x1 : Vec F S256x1 .i32) (x2 : Vec F S2560x2048 .fp8e4m3) (x3 : Vec F S80x2048 .i8)
    (s : Carry F) : Carry F :=
  chunkStep x1 (lg x0 x2 x3 3) (base n 3) (chunkStep x1 (lg x0 x2 x3 2) (base n 2)
    (chunkStep x1 (lg x0 x2 x3 1) (base n 1) (chunkStep x1 (lg x0 x2 x3 0) (base n 0) s)))

/-- What is carried before the first block. -/
def reset : Carry F := (k0_pay6, k0_pay7, k0_pay8)

/-- The first result, from what is carried after the last block. -/
def finishLp (s : Carry F) : Vec F S256x1 .f32 := k0_pay5 s.1 s.2.1 s.2.2

/-- The second result, from what is carried after the last block. -/
def finishLse (s : Carry F) : Vec F S256x1 .f32 := k0_pay4 s.1 s.2.1

/-! ## The pieces the body writes, chunk by chunk -/

/-- The whole of a scratch operand. -/
abbrev whole128 : Rect S256x128 := Rect.unit (s := S256x128) ![0, 0] S256x128.size inb_S256x128_S256x128_0_0

/-- A load of a scratch operand: its contents at entry `x` while nothing is written, what was written afterwards. -/
def ld (v : View sig .tc .vmem S256x128 .f32) (x : Vec F S256x128 .f32) : List (View.Piece (Elt F) S256x128 .f32) → Vec F S256x128 .f32
  | [] => x
  | p :: P => v.readCov (p :: P) whole128.toLoadRect

/-- A load after a store of the whole operand reads what was stored. -/
theorem ld_cons (v : View sig .tc .vmem S256x128 .f32) (x w : Vec F S256x128 .f32) (P : List (View.Piece (Elt F) S256x128 .f32)) :
    ld v x ((⟨whole128, w⟩ : View.Piece (Elt F) S256x128 .f32) :: P) = w :=
  View.readCov_full v inb_S256x128_S256x128_0_0 inb_S256x128_S256x128_0_0 w P

/-- The store of the running maximum in one chunk. -/
def mPiece (v : View sig .tc .vmem S256x128 .f32) (x : Vec F S256x128 .f32) (g : FVec F S256x512 .f32) (b : BitVec 32)
    (P : List (View.Piece (Elt F) S256x128 .f32)) : List (View.Piece (Elt F) S256x128 .f32) :=
  ⟨whole128, mKept (mChunk g b (ld v x P))⟩ :: P

/-- The store of the running sum in one chunk. -/
def lPiece (v v' : View sig .tc .vmem S256x128 .f32) (x y : Vec F S256x128 .f32) (g : FVec F S256x512 .f32) (b : BitVec 32)
    (P Q : List (View.Piece (Elt F) S256x128 .f32)) : List (View.Piece (Elt F) S256x128 .f32) :=
  ⟨whole128, lChunk g b (ld v x P) (ld v' y Q)⟩ :: Q

/-- The store of the running target logit in one chunk. -/
def zPiece (v : View sig .tc .vmem S256x128 .f32) (x : Vec F S256x128 .f32) (tl : IVec S256x128 32) (g : FVec F S256x512 .f32) (b : BitVec 32)
    (P : List (View.Piece (Elt F) S256x128 .f32)) : List (View.Piece (Elt F) S256x128 .f32) :=
  ⟨whole128, zChunk tl g b (ld v x P)⟩ :: P

/-- The stores of the running maximum in a block. -/
def mPieces (v : View sig .tc .vmem S256x128 .f32) (x : Vec F S256x128 .f32) (n : ℕ) (g : Fin 4 → FVec F S256x512 .f32)
    (P : List (View.Piece (Elt F) S256x128 .f32)) : List (View.Piece (Elt F) S256x128 .f32) :=
  mPiece v x (g 3) (base n 3) (mPiece v x (g 2) (base n 2) (mPiece v x (g 1) (base n 1) (mPiece v x (g 0) (base n 0) P)))

/-- The stores of the running sum in a block. -/
def lPieces (v v' : View sig .tc .vmem S256x128 .f32) (x y : Vec F S256x128 .f32) (n : ℕ) (g : Fin 4 → FVec F S256x512 .f32)
    (P Q : List (View.Piece (Elt F) S256x128 .f32)) : List (View.Piece (Elt F) S256x128 .f32) :=
  lPiece v v' x y (g 3) (base n 3) (mPiece v x (g 2) (base n 2) (mPiece v x (g 1) (base n 1) (mPiece v x (g 0) (base n 0) P)))
    (lPiece v v' x y (g 2) (base n 2) (mPiece v x (g 1) (base n 1) (mPiece v x (g 0) (base n 0) P))
      (lPiece v v' x y (g 1) (base n 1) (mPiece v x (g 0) (base n 0) P)
        (lPiece v v' x y (g 0) (base n 0) P Q)))

/-- The stores of the running target logit in a block. -/
def zPieces (v : View sig .tc .vmem S256x128 .f32) (x : Vec F S256x128 .f32) (tl : IVec S256x128 32) (n : ℕ)
    (g : Fin 4 → FVec F S256x512 .f32) (P : List (View.Piece (Elt F) S256x128 .f32)) : List (View.Piece (Elt F) S256x128 .f32) :=
  zPiece v x tl (g 3) (base n 3) (zPiece v x tl (g 2) (base n 2) (zPiece v x tl (g 1) (base n 1) (zPiece v x tl (g 0) (base n 0) P)))

/-- The running maximum read back after a block's stores. -/
theorem ld_mPieces (v v' v'' : View sig .tc .vmem S256x128 .f32) (x y z : Vec F S256x128 .f32) (n : ℕ) (x0 : Vec F S256x2560 .bf16)
    (x1 : Vec F S256x1 .i32) (x2 : Vec F S2560x2048 .fp8e4m3) (x3 : Vec F S80x2048 .i8)
    (P Q R : List (View.Piece (Elt F) S256x128 .f32)) :
    ld v x (mPieces v x n (lg x0 x2 x3) P) = (blockStep n x0 x1 x2 x3 (ld v x P, ld v' y Q, ld v'' z R)).1 := by
  simp only [mPieces, mPiece, ld_cons, blockStep, chunkStep]

/-- The running sum read back after a block's stores. -/
theorem ld_lPieces (v v' v'' : View sig .tc .vmem S256x128 .f32) (x y z : Vec F S256x128 .f32) (n : ℕ) (x0 : Vec F S256x2560 .bf16)
    (x1 : Vec F S256x1 .i32) (x2 : Vec F S2560x2048 .fp8e4m3) (x3 : Vec F S80x2048 .i8)
    (P Q R : List (View.Piece (Elt F) S256x128 .f32)) :
    ld v' y (lPieces v v' x y n (lg x0 x2 x3) P Q) = (blockStep n x0 x1 x2 x3 (ld v x P, ld v' y Q, ld v'' z R)).2.1 := by
  simp only [mPiece, lPieces, lPiece, ld_cons, blockStep, chunkStep]

/-- The running target logit read back after a block's stores. -/
theorem ld_zPieces (v v' v'' : View sig .tc .vmem S256x128 .f32) (x y z : Vec F S256x128 .f32) (n : ℕ) (x0 : Vec F S256x2560 .bf16)
    (x1 : Vec F S256x1 .i32) (x2 : Vec F S2560x2048 .fp8e4m3) (x3 : Vec F S80x2048 .i8)
    (P Q R : List (View.Piece (Elt F) S256x128 .f32)) :
    ld v'' z (zPieces v'' z (targetLess x1) n (lg x0 x2 x3) R) = (blockStep n x0 x1 x2 x3 (ld v x P, ld v' y Q, ld v'' z R)).2.2 := by
  simp only [zPieces, zPiece, ld_cons, blockStep, chunkStep]

/-- The logits of chunk `j` from the loads the body makes of its operands. -/
def lgRaw (arg1 : Memref sig .tc .vmem S256x2560 .bf16) (harg1 : arg1.IsWhole) (arg3 : Memref sig .tc .vmem S2560x2048 .fp8e4m3)
    (harg3 : arg3.IsWhole) (arg4 : Memref sig .tc .vmem S80x2048 .i8) (harg4 : arg4.IsWhole) (arg10 : Memref sig .tc .vmem S80x2048 .i32)
    (x0 : Vec F S256x2560 .bf16) (x2 : Vec F S2560x2048 .fp8e4m3) (x3 : Vec F S80x2048 .i8) (j : Fin 4) : FVec F S256x512 .f32 :=
  logits (View.readAt (Elt F) arg1.view (Rect.unit (s := S256x2560) ![0, 0] S256x2560.size inb_S256x2560_S256x2560_0_0).toLoadRect (harg1.unread x0))
    (View.readAt (Elt F) arg3.view (Rect.unit (s := S2560x2048) ![0, 512 * j.val] S2560x512.size (inb_chunk j)).toLoadRect (harg3.unread x2))
    fun b => arg10.view.readCov
      [⟨Rect.unit (s := S80x2048) ![0, 0] S80x2048.size inb_S80x2048_S80x2048_0_0,
        k0_pay9 (View.readAt (Elt F) arg4.view (Rect.unit (s := S80x2048) ![0, 0] S80x2048.size inb_S80x2048_S80x2048_0_0).toLoadRect (harg4.unread x3))⟩]
      (Rect.unit (s := S80x2048) ![b.val, 512 * j.val] S1x512.size (inb_words j b)).toLoadRect

/-- They are the logits of the operands' contents. -/
theorem lgRaw_eq (arg1 : Memref sig .tc .vmem S256x2560 .bf16) (harg1 : arg1.IsWhole) (arg3 : Memref sig .tc .vmem S2560x2048 .fp8e4m3)
    (harg3 : arg3.IsWhole) (arg4 : Memref sig .tc .vmem S80x2048 .i8) (harg4 : arg4.IsWhole) (arg10 : Memref sig .tc .vmem S80x2048 .i32)
    (x0 : Vec F S256x2560 .bf16) (x2 : Vec F S2560x2048 .fp8e4m3) (x3 : Vec F S80x2048 .i8) :
    lgRaw arg1 harg1 arg3 harg3 arg4 harg4 arg10 x0 x2 x3 = lg x0 x2 x3 := by
  funext j
  have h1 : View.readAt (Elt F) arg1.view (Rect.unit (s := S256x2560) ![0, 0] S256x2560.size inb_S256x2560_S256x2560_0_0).toLoadRect (harg1.unread x0) = x0 :=
    (View.readAt_full arg1.view _ _).trans (harg1.read_unread x0)
  have h3 : View.readAt (Elt F) arg3.view (Rect.unit (s := S2560x2048) ![0, 512 * j.val] S2560x512.size (inb_chunk j)).toLoadRect (harg3.unread x2) = wChunk x2 j := by
    rw [View.readAt_unit arg3.view _ _ rfl (inb_chunk j), harg3.read_unread]; rfl
  have h4 : View.readAt (Elt F) arg4.view (Rect.unit (s := S80x2048) ![0, 0] S80x2048.size inb_S80x2048_S80x2048_0_0).toLoadRect (harg4.unread x3) = x3 :=
    (View.readAt_full arg4.view _ _).trans (harg4.read_unread x3)
  unfold lgRaw lg
  rw [h1, h3, h4]
  congr 1
  funext b
  unfold View.readCov
  rw [View.readAt_unit arg10.view _ _ rfl (inb_words j b), View.read_writes_full]
  rfl

end Cert.KernelIdeal.Head

end
-- ==== Proof.Head.Leaves.lean ====
/- What the head kernel's body leaves in its scratch operands and outputs, as functions of what it found. -/
module

public import proofs.«01_k».proof.Proof.Head.Last
public import proofs.«01_k».proof.Proof.Head.Block

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves, in each of the three cases -/

/-- The scratch operands' contents after a block's stores are what the stores read back as. -/
theorem read_pieces (v v' : View sig .tc .vmem S256x128 .f32) (x w : Vec F S256x128 .f32) (f : v.ty.Contents (Elt F))
    (P : List (View.Piece (Elt F) S256x128 .f32)) :
    v.read (Elt F) (v.writes (Elt F) f ((⟨whole128, w⟩ : View.Piece (Elt F) S256x128 .f32) :: P))
      = ld v' x ((⟨whole128, w⟩ : View.Piece (Elt F) S256x128 .f32) :: P) :=
  (View.read_writes_full v f inb_S256x128_S256x128_0_0 w P).trans (ld_cons v' x w P).symm

/-- A whole scratch operand loaded while nothing is written to it. -/
theorem ld_whole (m : Memref sig .tc .vmem S256x128 .f32) (h : m.IsWhole) (x : Vec F S256x128 .f32) :
    View.readAt (Elt F) m.view whole128.toLoadRect (h.unread x) = x :=
  (View.readAt_full m.view _ inb_S256x128_S256x128_0_0).trans (h.read_unread x)

/-- A whole column operand loaded. -/
theorem ld_col (m : Memref sig .tc .vmem S256x1 .i32) (h : m.IsWhole) (x : Vec F S256x1 .i32) :
    View.readAt (Elt F) m.view (Rect.unit (s := S256x1) ![0, 0] S256x1.size inb_S256x1_S256x1_0_0).toLoadRect (h.unread x) = x :=
  (View.readAt_full m.view _ inb_S256x1_S256x1_0_0).trans (h.read_unread x)

section
variable (c : Dev nD) (i : grid0.Coords) (arg1 : Memref sig .tc .vmem S256x2560 .bf16) (harg1 : arg1.IsWhole) (arg2 : Memref sig .tc .vmem S256x1 .i32) (harg2 : arg2.IsWhole) (arg3 : Memref sig .tc .vmem S2560x2048 .fp8e4m3) (harg3 : arg3.IsWhole) (arg4 : Memref sig .tc .vmem S80x2048 .i8) (harg4 : arg4.IsWhole) (arg5 : Memref sig .tc .vmem S256x1 .f32) (harg5 : arg5.IsWhole) (arg6 : Memref sig .tc .vmem S256x1 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S80x2048 .i32) (harg10 : arg10.IsWhole)
  (x0 : Vec F S256x2560 .bf16) (x1 : Vec F S256x1 .i32) (x2 : Vec F S2560x2048 .fp8e4m3) (x3 : Vec F S80x2048 .i8) (xs0 xs1 xs2 : Vec F S256x128 .f32)

/-- The running maximum after the first block. -/
theorem first_0 (hc0 : cond0_0 i) (hc1 : ¬cond0_1 i) (f : arg7.view.ty.Contents (Elt F)) :
    arg7.view.read (Elt F) (arg7.view.writes (Elt F) f (runFirst (F := F) c i arg1 harg1 arg2 harg2 arg3 harg3 arg4 harg4 arg5 harg5 arg6 harg6 arg7 harg7 arg8 harg8 arg9 harg9 arg10 harg10 hc0 hc1 x0 x1 x2 x3).2.2.1) = (blockStep (i 0).val x0 x1 x2 x3 reset).1 := by
  rw [show (runFirst (F := F) c i arg1 harg1 arg2 harg2 arg3 harg3 arg4 harg4 arg5 harg5 arg6 harg6 arg7 harg7 arg8 harg8 arg9 harg9 arg10 harg10 hc0 hc1 x0 x1 x2 x3).2.2.1 = mPieces arg7.view k0_pay6 (i 0).val (lgRaw arg1 harg1 arg3 harg3 arg4 harg4 arg10 x0 x2 x3) [⟨whole128, k0_pay6⟩] from rfl]
  refine (read_pieces arg7.view arg7.view k0_pay6 _ f _).trans ?_
  refine Eq.trans (b := (blockStep (i 0).val x0 x1 x2 x3 (ld arg7.view k0_pay6 [⟨whole128, k0_pay6⟩], ld arg8.view k0_pay7 [⟨whole128, k0_pay7⟩], ld arg9.view k0_pay8 [⟨whole128, k0_pay8⟩])).1) ?_ ?_
  · rw [lgRaw_eq]
    exact ld_mPieces arg7.view arg8.view arg9.view k0_pay6 k0_pay7 k0_pay8 _ x0 x1 x2 x3 [⟨whole128, k0_pay6⟩] [⟨whole128, k0_pay7⟩] [⟨whole128, k0_pay8⟩]
  · rw [ld_cons, ld_cons, ld_cons]; rfl

/-- The running sum after the first block. -/
theorem first_1 (hc0 : cond0_0 i) (hc1 : ¬cond0_1 i) (f : arg8.view.ty.Contents (Elt F)) :
    arg8.view.read (Elt F) (arg8.view.writes (Elt F) f (runFirst (F := F) c i arg1 harg1 arg2 harg2 arg3 harg3 arg4 harg4 arg5 harg5 arg6 harg6 arg7 harg7 arg8 harg8 arg9 harg9 arg10 harg10 hc0 hc1 x0 x1 x2 x3).2.2.2.1) = (blockStep (i 0).val x0 x1 x2 x3 reset).2.1 := by
  rw [show (runFirst (F := F) c i arg1 harg1 arg2 harg2 arg3 harg3 arg4 harg4 arg5 harg5 arg6 harg6 arg7 harg7 arg8 harg8 arg9 harg9 arg10 harg10 hc0 hc1 x0 x1 x2 x3).2.2.2.1 = lPieces arg7.view arg8.view k0_pay6 k0_pay7 (i 0).val (lgRaw arg1 harg1 arg3 harg3 arg4 harg4 arg10 x0 x2 x3) [⟨whole128, k0_pay6⟩] [⟨whole128, k0_pay7⟩] from rfl]
  refine (read_pieces arg8.view arg8.view k0_pay7 _ f _).trans ?_
  refine Eq.trans (b := (blockStep (i 0).val x0 x1 x2 x3 (ld arg7.view k0_pay6 [⟨whole128, k0_pay6⟩], ld arg8.view k0_pay7 [⟨whole128, k0_pay7⟩], ld arg9.view k0_pay8 [⟨whole128, k0_pay8⟩])).2.1) ?_ ?_
  · rw [lgRaw_eq]
    exact ld_lPieces arg7.view arg8.view arg9.view k0_pay6 k0_pay7 k0_pay8 _ x0 x1 x2 x3 [⟨whole128, k0_pay6⟩] [⟨whole128, k0_pay7⟩] [⟨whole128, k0_pay8⟩]
  · rw [ld_cons, ld_cons, ld_cons]; rfl

/-- The running target logit after the first block. -/
theorem first_2 (hc0 : cond0_0 i) (hc1 : ¬cond0_1 i) (f : arg9.view.ty.Contents (Elt F)) :
    arg9.view.read (Elt F) (arg9.view.writes (Elt F) f (runFirst (F := F) c i arg1 harg1 arg2 harg2 arg3 harg3 arg4 harg4 arg5 harg5 arg6 harg6 arg7 harg7 arg8 harg8 arg9 harg9 arg10 harg10 hc0 hc1 x0 x1 x2 x3).2.2.2.2.1) = (blockStep (i 0).val x0 x1 x2 x3 reset).2.2 := by
  rw [show (runFirst (F := F) c i arg1 harg1 arg2 harg2 arg3 harg3 arg4 harg4 arg5 harg5 arg6 harg6 arg7 harg7 arg8 harg8 arg9 harg9 arg10 harg10 hc0 hc1 x0 x1 x2 x3).2.2.2.2.1 = zPieces arg9.view k0_pay8 (targetLess (View.readAt (Elt F) arg2.view (Rect.unit (s := S256x1) ![0, 0] S256x1.size inb_S256x1_S256x1_0_0).toLoadRect (harg2.unread x1))) (i 0).val (lgRaw arg1 harg1 arg3 harg3 arg4 harg4 arg10 x0 x2 x3) [⟨whole128, k0_pay8⟩] from rfl]
  refine (read_pieces arg9.view arg9.view k0_pay8 _ f _).trans ?_
  refine Eq.trans (b := (blockStep (i 0).val x0 x1 x2 x3 (ld arg7.view k0_pay6 [⟨whole128, k0_pay6⟩], ld arg8.view k0_pay7 [⟨whole128, k0_pay7⟩], ld arg9.view k0_pay8 [⟨whole128, k0_pay8⟩])).2.2) ?_ ?_
  · rw [lgRaw_eq, ld_col]
    exact ld_zPieces arg7.view arg8.view arg9.view k0_pay6 k0_pay7 k0_pay8 _ x0 x1 x2 x3 [⟨whole128, k0_pay6⟩] [⟨whole128, k0_pay7⟩] [⟨whole128, k0_pay8⟩]
  · rw [ld_cons, ld_cons, ld_cons]; rfl

/-- The running maximum after a middle block. -/
theorem middle_0 (hc0 : ¬cond0_0 i) (hc1 : ¬cond0_1 i) (f : arg7.view.ty.Contents (Elt F)) :
    arg7.view.read (Elt F) (arg7.view.writes (Elt F) f (runMiddle (F := F) c i arg1 harg1 arg2 harg2 arg3 harg3 arg4 harg4 arg5 harg5 arg6 harg6 arg7 harg7 arg8 harg8 arg9 harg9 arg10 harg10 hc0 hc1 x0 x1 x2 x3 xs0 xs1 xs2).2.2.1) = (blockStep (i 0).val x0 x1 x2 x3 (xs0, xs1, xs2)).1 := by
  rw [show (runMiddle (F := F) c i arg1 harg1 arg2 harg2 arg3 harg3 arg4 harg4 arg5 harg5 arg6 harg6 arg7 harg7 arg8 harg8 arg9 harg9 arg10 harg10 hc0 hc1 x0 x1 x2 x3 xs0 xs1 xs2).2.2.1 = mPieces arg7.view (View.readAt (Elt F) arg7.view whole128.toLoadRect (harg7.unread xs0)) (i 0).val (lgRaw arg1 harg1 arg3 harg3 arg4 harg4 arg10 x0 x2 x3) [] from rfl]
  refine (read_pieces arg7.view arg7.view (View.readAt (Elt F) arg7.view whole128.toLoadRect (harg7.unread xs0)) _ f _).trans ?_
  refine Eq.trans (b := (blockStep (i 0).val x0 x1 x2 x3 (ld arg7.view (View.readAt (Elt F) arg7.view whole128.toLoadRect (harg7.unread xs0)) [], ld arg8.view (View.readAt (Elt F) arg8.view whole128.toLoadRect (harg8.unread xs1)) [], ld arg9.view (View.readAt (Elt F) arg9.view whole128.toLoadRect (harg9.unread xs2)) [])).1) ?_ ?_
  · rw [lgRaw_eq]
    exact ld_mPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []
  · simp only [ld, ld_whole]

/-- The running sum after a middle block. -/
theorem middle_1 (hc0 : ¬cond0_0 i) (hc1 : ¬cond0_1 i) (f : arg8.view.ty.Contents (Elt F)) :
    arg8.view.read (Elt F) (arg8.view.writes (Elt F) f (runMiddle (F := F) c i arg1 harg1 arg2 harg2 arg3 harg3 arg4 harg4 arg5 harg5 arg6 harg6 arg7 harg7 arg8 harg8 arg9 harg9 arg10 harg10 hc0 hc1 x0 x1 x2 x3 xs0 xs1 xs2).2.2.2.1) = (blockStep (i 0).val x0 x1 x2 x3 (xs0, xs1, xs2)).2.1 := by
  rw [show (runMiddle (F := F) c i arg1 harg1 arg2 harg2 arg3 harg3 arg4 harg4 arg5 harg5 arg6 harg6 arg7 harg7 arg8 harg8 arg9 harg9 arg10 harg10 hc0 hc1 x0 x1 x2 x3 xs0 xs1 xs2).2.2.2.1 = lPieces arg7.view arg8.view (View.readAt (Elt F) arg7.view whole128.toLoadRect (harg7.unread xs0)) (View.readAt (Elt F) arg8.view whole128.toLoadRect (harg8.unread xs1)) (i 0).val (lgRaw arg1 harg1 arg3 harg3 arg4 harg4 arg10 x0 x2 x3) [] [] from rfl]
  refine (read_pieces arg8.view arg8.view (View.readAt (Elt F) arg8.view whole128.toLoadRect (harg8.unread xs1)) _ f _).trans ?_
  refine Eq.trans (b := (blockStep (i 0).val x0 x1 x2 x3 (ld arg7.view (View.readAt (Elt F) arg7.view whole128.toLoadRect (harg7.unread xs0)) [], ld arg8.view (View.readAt (Elt F) arg8.view whole128.toLoadRect (harg8.unread xs1)) [], ld arg9.view (View.readAt (Elt F) arg9.view whole128.toLoadRect (harg9.unread xs2)) [])).2.1) ?_ ?_
  · rw [lgRaw_eq]
    exact ld_lPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []
  · simp only [ld, ld_whole]

/-- The running target logit after a middle block. -/
theorem middle_2 (hc0 : ¬cond0_0 i) (hc1 : ¬cond0_1 i) (f : arg9.view.ty.Contents (Elt F)) :
    arg9.view.read (Elt F) (arg9.view.writes (Elt F) f (runMiddle (F := F) c i arg1 harg1 arg2 harg2 arg3 harg3 arg4 harg4 arg5 harg5 arg6 harg6 arg7 harg7 arg8 harg8 arg9 harg9 arg10 harg10 hc0 hc1 x0 x1 x2 x3 xs0 xs1 xs2).2.2.2.2.1) = (blockStep (i 0).val x0 x1 x2 x3 (xs0, xs1, xs2)).2.2 := by
  rw [show (runMiddle (F := F) c i arg1 harg1 arg2 harg2 arg3 harg3 arg4 harg4 arg5 harg5 arg6 harg6 arg7 harg7 arg8 harg8 arg9 harg9 arg10 harg10 hc0 hc1 x0 x1 x2 x3 xs0 xs1 xs2).2.2.2.2.1 = zPieces arg9.view (View.readAt (Elt F) arg9.view whole128.toLoadRect (harg9.unread xs2)) (targetLess (View.readAt (Elt F) arg2.view (Rect.unit (s := S256x1) ![0, 0] S256x1.size inb_S256x1_S256x1_0_0).toLoadRect (harg2.unread x1))) (i 0).val (lgRaw arg1 harg1 arg3 harg3 arg4 harg4 arg10 x0 x2 x3) [] from rfl]
  refine (read_pieces arg9.view arg9.view (View.readAt (Elt F) arg9.view whole128.toLoadRect (harg9.unread xs2)) _ f _).trans ?_
  refine Eq.trans (b := (blockStep (i 0).val x0 x1 x2 x3 (ld arg7.view (View.readAt (Elt F) arg7.view whole128.toLoadRect (harg7.unread xs0)) [], ld arg8.view (View.readAt (Elt F) arg8.view whole128.toLoadRect (harg8.unread xs1)) [], ld arg9.view (View.readAt (Elt F) arg9.view whole128.toLoadRect (harg9.unread xs2)) [])).2.2) ?_ ?_
  · rw [lgRaw_eq, ld_col]
    exact ld_zPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []
  · simp only [ld, ld_whole]

/-- The running maximum after the last block. -/
theorem last_0 (hc0 : ¬cond0_0 i) (hc1 : cond0_1 i) (f : arg7.view.ty.Contents (Elt F)) :
    arg7.view.read (Elt F) (arg7.view.writes (Elt F) f (runLast (F := F) c i arg1 harg1 arg2 harg2 arg3 harg3 arg4 harg4 arg5 harg5 arg6 harg6 arg7 harg7 arg8 harg8 arg9 harg9 arg10 harg10 hc0 hc1 x0 x1 x2 x3 xs0 xs1 xs2).2.2.1) = (blockStep (i 0).val x0 x1 x2 x3 (xs0, xs1, xs2)).1 := by
  rw [show (runLast (F := F) c i arg1 harg1 arg2 harg2 arg3 harg3 arg4 harg4 arg5 harg5 arg6 harg6 arg7 harg7 arg8 harg8 arg9 harg9 arg10 harg10 hc0 hc1 x0 x1 x2 x3 xs0 xs1 xs2).2.2.1 = mPieces arg7.view (View.readAt (Elt F) arg7.view whole128.toLoadRect (harg7.unread xs0)) (i 0).val (lgRaw arg1 harg1 arg3 harg3 arg4 harg4 arg10 x0 x2 x3) [] from rfl]
  refine (read_pieces arg7.view arg7.view (View.readAt (Elt F) arg7.view whole128.toLoadRect (harg7.unread xs0)) _ f _).trans ?_
  refine Eq.trans (b := (blockStep (i 0).val x0 x1 x2 x3 (ld arg7.view (View.readAt (Elt F) arg7.view whole128.toLoadRect (harg7.unread xs0)) [], ld arg8.view (View.readAt (Elt F) arg8.view whole128.toLoadRect (harg8.unread xs1)) [], ld arg9.view (View.readAt (Elt F) arg9.view whole128.toLoadRect (harg9.unread xs2)) [])).1) ?_ ?_
  · rw [lgRaw_eq]
    exact ld_mPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []
  · simp only [ld, ld_whole]

/-- The running sum after the last block. -/
theorem last_1 (hc0 : ¬cond0_0 i) (hc1 : cond0_1 i) (f : arg8.view.ty.Contents (Elt F)) :
    arg8.view.read (Elt F) (arg8.view.writes (Elt F) f (runLast (F := F) c i arg1 harg1 arg2 harg2 arg3 harg3 arg4 harg4 arg5 harg5 arg6 harg6 arg7 harg7 arg8 harg8 arg9 harg9 arg10 harg10 hc0 hc1 x0 x1 x2 x3 xs0 xs1 xs2).2.2.2.1) = (blockStep (i 0).val x0 x1 x2 x3 (xs0, xs1, xs2)).2.1 := by
  rw [show (runLast (F := F) c i arg1 harg1 arg2 harg2 arg3 harg3 arg4 harg4 arg5 harg5 arg6 harg6 arg7 harg7 arg8 harg8 arg9 harg9 arg10 harg10 hc0 hc1 x0 x1 x2 x3 xs0 xs1 xs2).2.2.2.1 = lPieces arg7.view arg8.view (View.readAt (Elt F) arg7.view whole128.toLoadRect (harg7.unread xs0)) (View.readAt (Elt F) arg8.view whole128.toLoadRect (harg8.unread xs1)) (i 0).val (lgRaw arg1 harg1 arg3 harg3 arg4 harg4 arg10 x0 x2 x3) [] [] from rfl]
  refine (read_pieces arg8.view arg8.view (View.readAt (Elt F) arg8.view whole128.toLoadRect (harg8.unread xs1)) _ f _).trans ?_
  refine Eq.trans (b := (blockStep (i 0).val x0 x1 x2 x3 (ld arg7.view (View.readAt (Elt F) arg7.view whole128.toLoadRect (harg7.unread xs0)) [], ld arg8.view (View.readAt (Elt F) arg8.view whole128.toLoadRect (harg8.unread xs1)) [], ld arg9.view (View.readAt (Elt F) arg9.view whole128.toLoadRect (harg9.unread xs2)) [])).2.1) ?_ ?_
  · rw [lgRaw_eq]
    exact ld_lPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []
  · simp only [ld, ld_whole]

/-- The running target logit after the last block. -/
theorem last_2 (hc0 : ¬cond0_0 i) (hc1 : cond0_1 i) (f : arg9.view.ty.Contents (Elt F)) :
    arg9.view.read (Elt F) (arg9.view.writes (Elt F) f (runLast (F := F) c i arg1 harg1 arg2 harg2 arg3 harg3 arg4 harg4 arg5 harg5 arg6 harg6 arg7 harg7 arg8 harg8 arg9 harg9 arg10 harg10 hc0 hc1 x0 x1 x2 x3 xs0 xs1 xs2).2.2.2.2.1) = (blockStep (i 0).val x0 x1 x2 x3 (xs0, xs1, xs2)).2.2 := by
  rw [show (runLast (F := F) c i arg1 harg1 arg2 harg2 arg3 harg3 arg4 harg4 arg5 harg5 arg6 harg6 arg7 harg7 arg8 harg8 arg9 harg9 arg10 harg10 hc0 hc1 x0 x1 x2 x3 xs0 xs1 xs2).2.2.2.2.1 = zPieces arg9.view (View.readAt (Elt F) arg9.view whole128.toLoadRect (harg9.unread xs2)) (targetLess (View.readAt (Elt F) arg2.view (Rect.unit (s := S256x1) ![0, 0] S256x1.size inb_S256x1_S256x1_0_0).toLoadRect (harg2.unread x1))) (i 0).val (lgRaw arg1 harg1 arg3 harg3 arg4 harg4 arg10 x0 x2 x3) [] from rfl]
  refine (read_pieces arg9.view arg9.view (View.readAt (Elt F) arg9.view whole128.toLoadRect (harg9.unread xs2)) _ f _).trans ?_
  refine Eq.trans (b := (blockStep (i 0).val x0 x1 x2 x3 (ld arg7.view (View.readAt (Elt F) arg7.view whole128.toLoadRect (harg7.unread xs0)) [], ld arg8.view (View.readAt (Elt F) arg8.view whole128.toLoadRect (harg8.unread xs1)) [], ld arg9.view (View.readAt (Elt F) arg9.view whole128.toLoadRect (harg9.unread xs2)) [])).2.2) ?_ ?_
  · rw [lgRaw_eq, ld_col]
    exact ld_zPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []
  · simp only [ld, ld_whole]

/-- The first result after the last block. -/
theorem last_out5 (hc0 : ¬cond0_0 i) (hc1 : cond0_1 i) (f : arg5.view.ty.Contents (Elt F)) :
    arg5.view.read (Elt F) (arg5.view.writes (Elt F) f (runLast (F := F) c i arg1 harg1 arg2 harg2 arg3 harg3 arg4 harg4 arg5 harg5 arg6 harg6 arg7 harg7 arg8 harg8 arg9 harg9 arg10 harg10 hc0 hc1 x0 x1 x2 x3 xs0 xs1 xs2).1) = finishLp (blockStep (i 0).val x0 x1 x2 x3 (xs0, xs1, xs2)) := by
  rw [show (runLast (F := F) c i arg1 harg1 arg2 harg2 arg3 harg3 arg4 harg4 arg5 harg5 arg6 harg6 arg7 harg7 arg8 harg8 arg9 harg9 arg10 harg10 hc0 hc1 x0 x1 x2 x3 xs0 xs1 xs2).1 = [⟨Rect.unit (s := S256x1) ![0, 0] S256x1.size inb_S256x1_S256x1_0_0, k0_pay5 (ld arg7.view (View.readAt (Elt F) arg7.view whole128.toLoadRect (harg7.unread xs0)) (mPieces arg7.view (View.readAt (Elt F) arg7.view whole128.toLoadRect (harg7.unread xs0)) (i 0).val (lgRaw arg1 harg1 arg3 harg3 arg4 harg4 arg10 x0 x2 x3) [])) (ld arg8.view (View.readAt (Elt F) arg8.view whole128.toLoadRect (harg8.unread xs1)) (lPieces arg7.view arg8.view (View.readAt (Elt F) arg7.view whole128.toLoadRect (harg7.unread xs0)) (View.readAt (Elt F) arg8.view whole128.toLoadRect (harg8.unread xs1)) (i 0).val (lgRaw arg1 harg1 arg3 harg3 arg4 harg4 arg10 x0 x2 x3) [] [])) (ld arg9.view (View.readAt (Elt F) arg9.view whole128.toLoadRect (harg9.unread xs2)) (zPieces arg9.view (View.readAt (Elt F) arg9.view whole128.toLoadRect (harg9.unread xs2)) (targetLess (View.readAt (Elt F) arg2.view (Rect.unit (s := S256x1) ![0, 0] S256x1.size inb_S256x1_S256x1_0_0).toLoadRect (harg2.unread x1))) (i 0).val (lgRaw arg1 harg1 arg3 harg3 arg4 harg4 arg10 x0 x2 x3) []))⟩] from rfl]
  refine (View.read_writes_full arg5.view f inb_S256x1_S256x1_0_0 _ []).trans ?_
  rw [lgRaw_eq, ld_col]
  rw [ld_mPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []]
  rw [ld_lPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []]
  rw [ld_zPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []]
  simp only [ld, ld_whole, finishLp]

/-- The second result after the last block. -/
theorem last_out6 (hc0 : ¬cond0_0 i) (hc1 : cond0_1 i) (f : arg6.view.ty.Contents (Elt F)) :
    arg6.view.read (Elt F) (arg6.view.writes (Elt F) f (runLast (F := F) c i arg1 harg1 arg2 harg2 arg3 harg3 arg4 harg4 arg5 harg5 arg6 harg6 arg7 harg7 arg8 harg8 arg9 harg9 arg10 harg10 hc0 hc1 x0 x1 x2 x3 xs0 xs1 xs2).2.1) = finishLse (blockStep (i 0).val x0 x1 x2 x3 (xs0, xs1, xs2)) := by
  rw [show (runLast (F := F) c i arg1 harg1 arg2 harg2 arg3 harg3 arg4 harg4 arg5 harg5 arg6 harg6 arg7 harg7 arg8 harg8 arg9 harg9 arg10 harg10 hc0 hc1 x0 x1 x2 x3 xs0 xs1 xs2).2.1 = [⟨Rect.unit (s := S256x1) ![0, 0] S256x1.size inb_S256x1_S256x1_0_0, k0_pay4 (ld arg7.view (View.readAt (Elt F) arg7.view whole128.toLoadRect (harg7.unread xs0)) (mPieces arg7.view (View.readAt (Elt F) arg7.view whole128.toLoadRect (harg7.unread xs0)) (i 0).val (lgRaw arg1 harg1 arg3 harg3 arg4 harg4 arg10 x0 x2 x3) [])) (ld arg8.view (View.readAt (Elt F) arg8.view whole128.toLoadRect (harg8.unread xs1)) (lPieces arg7.view arg8.view (View.readAt (Elt F) arg7.view whole128.toLoadRect (harg7.unread xs0)) (View.readAt (Elt F) arg8.view whole128.toLoadRect (harg8.unread xs1)) (i 0).val (lgRaw arg1 harg1 arg3 harg3 arg4 harg4 arg10 x0 x2 x3) [] []))⟩] from rfl]
  refine (View.read_writes_full arg6.view f inb_S256x1_S256x1_0_0 _ []).trans ?_
  rw [lgRaw_eq]
  rw [ld_mPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []]
  rw [ld_lPieces arg7.view arg8.view arg9.view (View.readAt (Elt F) arg7.view whole128.toLoadRect (harg7.unread xs0)) (View.readAt (Elt F) arg8.view whole128.toLoadRect (harg8.unread xs1)) (View.readAt (Elt F) arg9.view whole128.toLoadRect (harg9.unread xs2)) _ x0 x1 x2 x3 [] [] []]
  simp only [ld, ld_whole, finishLse]

end

end Cert.KernelIdeal.Head

end
-- ==== Proof.Head.Run.lean ====
/- The head kernel's run: the body's obligation against an invariant of the carried scratch, and the whole launch. -/
module

public import proofs.«01_k».proof.Proof.Head.Leaves
public import Idealize.ShloMosaic.Lib.Pipeline.ArrRel

@[expose] public section

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant and what it must satisfy -/

/-- The codes' staging buffer at a point: the block fetched there, over whatever the part past the array's edge held. -/
def codesAt (c : Dev nD) (t : Fin cfg0.N) (d : Vec F S2560x2048 .fp8e4m3) : Vec F S2560x2048 .fp8e4m3 :=
  (cfg0.win 2).fill (cfg0.grid.coords t) d (iblk m c 2 t)

/-- The scales' staging buffer at a point: the block fetched there, over whatever the part past the array's edge held. -/
def scalesAt (c : Dev nD) (t : Fin cfg0.N) (d : Vec F S80x2048 .i8) : Vec F S80x2048 .i8 :=
  (cfg0.win 3).fill (cfg0.grid.coords t) d (iblk m c 3 t)

/-- What is asked of an invariant of the carried scratch (indexed by the number of blocks done) and of the two
    predicates the outputs are to satisfy: it holds of the reset scratch, every block's step keeps it whatever lies past
    the arrays' edge, and after the last block it gives the outputs' predicates. -/
structure Tracks (Inv : Dev nD → ℕ → Carry F → Prop) (O4 O5 : Dev nD → Vec F S256x1 .f32 → Prop) : Prop where
  start : ∀ c, Inv c 0 reset
  step : ∀ c (t : Fin cfg0.N) d2 d3 s, Inv c t.val s →
    Inv c (t.val + 1) (blockStep (grid0.coords t 0).val (iblk m c 0 t) (iblk m c 1 t) (codesAt m c t d2) (scalesAt m c t d3) s)
  lp : ∀ c s, Inv c 75 s → O4 c (finishLp s)
  lse : ∀ c s, Inv c 75 s → O5 c (finishLse s)

/-- The invariant that says nothing, with outputs of which nothing is said: enough for the frame. -/
theorem Tracks.trivial : Tracks m (fun _ _ _ => True) (fun _ _ => True) (fun _ _ => True) :=
  ⟨fun _ => True.intro, fun _ _ _ _ _ _ => True.intro, fun _ _ _ => True.intro, fun _ _ _ => True.intro⟩

variable (Inv : Dev nD → ℕ → Carry F → Prop) (O4 O5 : Dev nD → Vec F S256x1 .f32 → Prop)

/-! ## The run's proof data -/

/-- The scratch after a block: the carried operands at some contents of which the invariant holds. -/
def Held (c : Dev nD) (n : ℕ) : sProp 𝕄 :=
  iprop(∃ s : Carry F, ⌜Inv c n s⌝ ∗ iprop(owns (c : Thread nD τ) scM0_0 fullShare s.1 ∗ owns (c : Thread nD τ) scM0_1 fullShare s.2.1 ∗ owns (c : Thread nD τ) scM0_2 fullShare s.2.2 ∗ (∃ d, owns (c : Thread nD τ) scM0_3 fullShare d)) ∗ (∃ r, prngReg c r))

/-- The scratch before point `n`: at anything before the first, as `Held` says after it. -/
def Phi (c : Dev nD) : ℕ → sProp 𝕄
  | 0 => Pipeline.ΦA spec0 c
  | n + 1 => Held Inv c (n + 1)

theorem Phi_pos (c : Dev nD) {n : ℕ} (h : n ≠ 0) : (Phi Inv c n : sProp 𝕄) = Held Inv c n := by
  cases n with
  | zero => exact absurd rfl h
  | succ n => rfl

/-- The run's proof data: the inputs' staging buffers are left as found, the outputs' predicates hold of what the last
    point leaves in theirs. -/
def rdat (c : Dev nD) : Pipeline.RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => t.val = 74 → O4 c X
    | ⟨5, _⟩ => t.val = 74 → O5 c X
  Φ t := Phi Inv c t.val
  q _ := fullShare
  owed _ := 0

theorem A_eq (c : Dev nD) (w : Fin cfg0.W) : (rdat m Inv O4 O5 c).A w = V m c (Pipeline.arrRef spec0 w) := by
  dsimp only [rdat]

/-! ## What the body may find in the inputs' staging buffers -/

/-- The rows' buffer holds the whole rows at every point. -/
theorem finds_0 (c : Dev nD) (t : Fin cfg0.N) (Y : Vec F S256x2560 .bf16) (h : (rdat m Inv O4 O5 c).Finds 0 t Y) :
    Y = iblk m c 0 t := by
  obtain ⟨d, hd⟩ := (rdat m Inv O4 O5 c).finds_in_eq_fetched 0 rfl (fun _ _ _ => rfl) (fun _ _ _ h => h) t Y h
  rw [hd]; unfold Pipeline.RDat.fetched Pipeline.RDat.blockOf iblk; rw [A_eq]; try rfl

/-- The targets' buffer holds all targets at every point. -/
theorem finds_1 (c : Dev nD) (t : Fin cfg0.N) (Y : Vec F S256x1 .i32) (h : (rdat m Inv O4 O5 c).Finds 1 t Y) :
    Y = iblk m c 1 t := by
  obtain ⟨d, hd⟩ := (rdat m Inv O4 O5 c).finds_in_eq_fetched 1 rfl (fun _ _ _ => rfl) (fun _ _ _ h => h) t Y h
  rw [hd]; unfold Pipeline.RDat.fetched Pipeline.RDat.blockOf iblk; rw [A_eq]; try rfl

/-- The codes' buffer holds the point's block of them, with anything past the edge. -/
theorem finds_2 (c : Dev nD) (t : Fin cfg0.N) (Y : Vec F S2560x2048 .fp8e4m3) (h : (rdat m Inv O4 O5 c).Finds 2 t Y) :
    ∃ d, Y = codesAt m c t d := by
  obtain ⟨d, hd⟩ := ((rdat m Inv O4 O5 c).finds_of_fetch (fetch0_2 t) Y).mp h
  refine ⟨d, hd.trans ?_⟩
  unfold Pipeline.RDat.fetched Pipeline.RDat.blockOf codesAt iblk; rw [A_eq]

/-- The scales' buffer holds the point's block of them, with anything past the edge. -/
theorem finds_3 (c : Dev nD) (t : Fin cfg0.N) (Y : Vec F S80x2048 .i8) (h : (rdat m Inv O4 O5 c).Finds 3 t Y) :
    ∃ d, Y = scalesAt m c t d := by
  obtain ⟨d, hd⟩ := ((rdat m Inv O4 O5 c).finds_of_fetch (fetch0_3 t) Y).mp h
  refine ⟨d, hd.trans ?_⟩
  unfold Pipeline.RDat.fetched Pipeline.RDat.blockOf scalesAt iblk; rw [A_eq]

/-! ## The body's obligation -/

/-- What the body is called with at a point beside the scratch: the core's tally and the six staging buffers. -/
def Given (c : Dev nD) (t : Fin cfg0.N) (x0 : Vec F S256x2560 .bf16) (x1 : Vec F S256x1 .i32) (x2 : Vec F S2560x2048 .fp8e4m3)
    (x3 : Vec F S80x2048 .i8) (y4 y5 : Vec F S256x1 .f32) : sProp 𝕄 :=
  iprop((rdat m Inv O4 O5 c).owesAt () t.castSucc
    ∗ owns (c : Thread nD τ) (ms0_0 t) fullShare x0 ∗ owns (c : Thread nD τ) (ms0_1 t) fullShare x1
    ∗ owns (c : Thread nD τ) (ms0_2 t) fullShare x2 ∗ owns (c : Thread nD τ) (ms0_3 t) fullShare x3
    ∗ owns (c : Thread nD τ) (ms0_4 t) fullShare y4 ∗ owns (c : Thread nD τ) (ms0_5 t) fullShare y5)

/-- What it returns: the scratch under the invariant, the inputs' buffers as found, the outputs' buffers at contents of
    which, at the last point, their predicates hold. -/
def Returned (c : Dev nD) (t : Fin cfg0.N) (x0 : Vec F S256x2560 .bf16) (x1 : Vec F S256x1 .i32) (x2 : Vec F S2560x2048 .fp8e4m3)
    (x3 : Vec F S80x2048 .i8) : sProp 𝕄 :=
  iprop(Held Inv c (t.val + 1) ∗ (rdat m Inv O4 O5 c).owesAt () t.castSucc
    ∗ (∃ X, ⌜X = x0⌝ ∗ owns (c : Thread nD τ) (ms0_0 t) fullShare X) ∗ (∃ X, ⌜X = x1⌝ ∗ owns (c : Thread nD τ) (ms0_1 t) fullShare X)
    ∗ (∃ X, ⌜X = x2⌝ ∗ owns (c : Thread nD τ) (ms0_2 t) fullShare X) ∗ (∃ X, ⌜X = x3⌝ ∗ owns (c : Thread nD τ) (ms0_3 t) fullShare X)
    ∗ (∃ X, ⌜t.val = 74 → O4 c X⌝ ∗ owns (c : Thread nD τ) (ms0_4 t) fullShare X)
    ∗ (∃ X, ⌜t.val = 74 → O5 c X⌝ ∗ owns (c : Thread nD τ) (ms0_5 t) fullShare X))

variable (c : Dev nD) (t : Fin cfg0.N) (x0 : Vec F S256x2560 .bf16) (x1 : Vec F S256x1 .i32) (x2 : Vec F S2560x2048 .fp8e4m3)
  (x3 : Vec F S80x2048 .i8) (y4 y5 : Vec F S256x1 .f32)

/-- The body's triple at the first point. -/
theorem body_first (h0 : cond0_0 (grid0.coords t)) (h1 : ¬cond0_1 (grid0.coords t)) (ht : t.val ≠ 74)
    (hI : Inv c (t.val + 1) (blockStep (grid0.coords t 0).val x0 x1 x2 x3 reset)) :
    iprop(Pipeline.ΦA spec0 c ∗ Given m Inv O4 O5 c t x0 x1 x2 x3 y4 y5)
      ⊢ wp frame (wpE (defs₀ (F := F)) Variants.none c none) Set.univ (bodyAt0 t) (fun _ => Returned m Inv O4 O5 c t x0 x1 x2 x3) := by
  rw [PhiA0_eq]; unfold Given Returned Held bodyAt0
  iintro ⟨⟨⟨HS0, HS1, HS2, HS3⟩, Hg⟩, Ho, H0, H1, H2, H3, H4, H5⟩
  iapply ((runFirst c (grid0.coords t) _ _ _ _ _ _ _ _ _ _ _ _ _ _ _ _ _ _ _ _ h0 h1 x0 x1 x2 x3).2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%es0, HS0⟩, ⟨%es1, HS1⟩, ⟨%es2, HS2⟩, ⟨%fT3, HS3⟩⟩
  isplitl [HS0 HS1 HS2 HS3 Hg]
  · iexists (blockStep (grid0.coords t 0).val x0 x1 x2 x3 reset)
    isplitr; · ipureintro; exact hI
    isplitl [HS0 HS1 HS2 HS3]
    · isplitl [HS0]
      · unfold owns; iexists _; isplitr
        swap; · iexact HS0
        ipureintro; exact first_0 c _ _ _ _ _ _ _ _ _ _ _ _ _ _ _ _ _ _ _ _ _ _ _ _ _ _ _ _
      isplitl [HS1]
      · unfold owns; iexists _; isplitr
        swap; · iexact HS1
        ipureintro; exact first_1 c _ _ _ _ _ _ _ _ _ _ _ _ _ _ _ _ _ _ _ _ _ _ _ _ _ _ _ _
      isplitl [HS2]
      · unfold owns; iexists _; isplitr
        swap; · iexact HS2
        ipureintro; exact first_2 c _ _ _ _ _ _ _ _ _ _ _ _ _ _ _ _ _ _ _ _ _ _ _ _ _ _ _ _
      iexists _; unfold owns; iexists _; isplitr
      swap; · iexact HS3
      ipureintro; rfl
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; exact fun h => absurd h ht
  iexists _; isplitr
  swap; · iexact H5
  ipureintro; exact fun h => absurd h ht

/-- The body's triple at a point that is neither the first nor the last. -/
theorem body_middle (h0 : ¬cond0_0 (grid0.coords t)) (h1 : ¬cond0_1 (grid0.coords t)) (ht : t.val ≠ 74)
    (hI : ∀ s, Inv c t.val s → Inv c (t.val + 1) (blockStep (grid0.coords t 0).val x0 x1 x2 x3 s)) :
    iprop(Held Inv c t.val ∗ Given m Inv O4 O5 c t x0 x1 x2 x3 y4 y5)
      ⊢ wp frame (wpE (defs₀ (F := F)) Variants.none c none) Set.univ (bodyAt0 t) (fun _ => Returned m Inv O4 O5 c t x0 x1 x2 x3) := by
  unfold Given Returned Held bodyAt0
  iintro ⟨⟨%s, %hs, ⟨HS0, HS1, HS2, HS3⟩, Hg⟩, Ho, H0, H1, H2, H3, H4, H5⟩
  replace hI := hI s hs
  iapply ((runMiddle c (grid0.coords t) _ _ _ _ _ _ _ _ _ _ _ _ _ _ _ _ _ _ _ _ h0 h1 x0 x1 x2 x3 s.1 s.2.1 s.2.2).2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro ⟨H0, H1, H2, H3, H4, H5, ⟨%es0, HS0⟩, ⟨%es1, HS1⟩, ⟨%es2, HS2⟩, ⟨%fT3, HS3⟩⟩
  isplitl [HS0 HS1 HS2 HS3 Hg]
  · iexists (blockStep (grid0.coords t 0).val x0 x1 x2 x3 s)
    isplitr; · ipureintro; exact hI
    isplitl [HS0 HS1 HS2 HS3]
    · isplitl [HS0]
      · unfold owns; iexists _; isplitr
        swap; · iexact HS0
        ipureintro; exact middle_0 c _ _ _ _ _ _ _ _ _ _ _ _ _ _ _ _ _ _ _ _ _ _ _ _ _ _ _ _ _ _ _
      isplitl [HS1]
      · unfold owns; iexists _; isplitr
        swap; · iexact HS1
        ipureintro; exact middle_1 c _ _ _ _ _ _ _ _ _ _ _ _ _ _ _ _ _ _ _ _ _ _ _ _ _ _ _ _ _ _ _
      isplitl [HS2]
      · unfold owns; iexists _; isplitr
        swap; · iexact HS2
        ipureintro; exact middle_2 c _ _ _ _ _ _ _ _ _ _ _ _ _ _ _ _ _ _ _ _ _ _ _ _ _ _ _ _ _ _ _
      iexists _; unfold owns; iexists _; isplitr
      swap; · iexact HS3
      ipureintro; rfl
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; exact fun h => absurd h ht
  iexists _; isplitr
  swap; · iexact H5
  ipureintro; exact fun h => absurd h ht

/-- The body's triple at the last point. -/
theorem body_last (h0 : ¬cond0_0 (grid0.coords t)) (h1 : cond0_1 (grid0.coords t))
    (hI : ∀ s, Inv c t.val s → Inv c (t.val + 1) (blockStep (grid0.coords t 0).val x0 x1 x2 x3 s))
    (hO4 : ∀ s, Inv c (t.val + 1) s → t.val = 74 → O4 c (finishLp s)) (hO5 : ∀ s, Inv c (t.val + 1) s → t.val = 74 → O5 c (finishLse s)) :
    iprop(Held Inv c t.val ∗ Given m Inv O4 O5 c t x0 x1 x2 x3 y4 y5)
      ⊢ wp frame (wpE (defs₀ (F := F)) Variants.none c none) Set.univ (bodyAt0 t) (fun _ => Returned m Inv O4 O5 c t x0 x1 x2 x3) := by
  unfold Given Returned Held bodyAt0
  iintro ⟨⟨%s, %hs, ⟨HS0, HS1, HS2, HS3⟩, Hg⟩, Ho, H0, H1, H2, H3, H4, H5⟩
  replace hI := hI s hs
  replace hO4 := hO4 _ hI
  replace hO5 := hO5 _ hI
  iapply ((runLast c (grid0.coords t) _ _ _ _ _ _ _ _ _ _ _ _ _ _ _ _ _ _ _ _ h0 h1 x0 x1 x2 x3 s.1 s.2.1 s.2.2).2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%es0, HS0⟩, ⟨%es1, HS1⟩, ⟨%es2, HS2⟩, ⟨%fT3, HS3⟩⟩
  isplitl [HS0 HS1 HS2 HS3 Hg]
  · iexists (blockStep (grid0.coords t 0).val x0 x1 x2 x3 s)
    isplitr; · ipureintro; exact hI
    isplitl [HS0 HS1 HS2 HS3]
    · isplitl [HS0]
      · unfold owns; iexists _; isplitr
        swap; · iexact HS0
        ipureintro; exact last_0 c _ _ _ _ _ _ _ _ _ _ _ _ _ _ _ _ _ _ _ _ _ _ _ _ _ _ _ _ _ _ _
      isplitl [HS1]
      · unfold owns; iexists _; isplitr
        swap; · iexact HS1
        ipureintro; exact last_1 c _ _ _ _ _ _ _ _ _ _ _ _ _ _ _ _ _ _ _ _ _ _ _ _ _ _ _ _ _ _ _
      isplitl [HS2]
      · unfold owns; iexists _; isplitr
        swap; · iexact HS2
        ipureintro; exact last_2 c _ _ _ _ _ _ _ _ _ _ _ _ _ _ _ _ _ _ _ _ _ _ _ _ _ _ _ _ _ _ _
      iexists _; unfold owns; iexists _; isplitr
      swap; · iexact HS3
      ipureintro; rfl
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists (finishLp (blockStep (grid0.coords t 0).val x0 x1 x2 x3 s)); isplitr; · ipureintro; exact hO4
    unfold owns; iexists _; isplitr
    swap; · iexact H4
    ipureintro; exact last_out5 c _ _ _ _ _ _ _ _ _ _ _ _ _ _ _ _ _ _ _ _ _ _ _ _ _ _ _ _ _ _ _
  iexists (finishLse (blockStep (grid0.coords t 0).val x0 x1 x2 x3 s)); isplitr; · ipureintro; exact hO5
  unfold owns; iexists _; isplitr
  swap; · iexact H5
  ipureintro; exact last_out6 c _ _ _ _ _ _ _ _ _ _ _ _ _ _ _ _ _ _ _ _ _ _ _ _ _ _ _ _ _ _ _

variable {Inv O4 O5}

/-- The body's triple at any point. -/
theorem body_any (T : Tracks m Inv O4 O5) (d2 : Vec F S2560x2048 .fp8e4m3) (d3 : Vec F S80x2048 .i8) :
    iprop(Phi Inv c t.val ∗ Given m Inv O4 O5 c t (iblk m c 0 t) (iblk m c 1 t) (codesAt m c t d2) (scalesAt m c t d3) y4 y5)
      ⊢ wp frame (wpE (defs₀ (F := F)) Variants.none c none) Set.univ (bodyAt0 t)
          (fun _ => Returned m Inv O4 O5 c t (iblk m c 0 t) (iblk m c 1 t) (codesAt m c t d2) (scalesAt m c t d3)) := by
  have hN : t.val < 75 := lt_of_lt_of_eq t.isLt (show cfg0.N = 75 from N_0)
  have hst := T.step c t d2 d3
  by_cases h0 : t.val = 0
  · have e : (Phi Inv c t.val : sProp 𝕄) = Pipeline.ΦA spec0 c := by rw [h0]; rfl
    rw [e]
    refine body_first m Inv O4 O5 c t _ _ _ _ y4 y5 ((hcond0_0 t).mpr (by omega)) (fun h => ?_) (by omega) (hst reset ?_)
    · have := (hcond0_1 t).mp h; omega
    · rw [h0]; exact T.start c
  · rw [Phi_pos Inv c h0]
    by_cases h1 : t.val = 74
    · refine body_last m Inv O4 O5 c t _ _ _ _ y4 y5 (fun h => ?_) ((hcond0_1 t).mpr (by omega)) hst (fun s hs h => ?_) (fun s hs h => ?_)
      · have := (hcond0_0 t).mp h; omega
      · exact T.lp c s (by rw [h] at hs; exact hs)
      · exact T.lse c s (by rw [h] at hs; exact hs)
    · refine body_middle m Inv O4 O5 c t _ _ _ _ y4 y5 (fun h => ?_) (fun h => ?_) h1 hst
      · have := (hcond0_0 t).mp h; omega
      · have := (hcond0_1 t).mp h; omega

/-- The body table's row at a point's slots is the body on that point's operands. -/
theorem defs₀_row : defs₀ (F := F) .tc cfg0.body (cfg0.bodyArgs t (cfg0.slots t)) = bodyAt0 t := by
  unfold defs₀; rw [Defs.onTc_tc]

/-- The body's obligation at every point. -/
theorem body_obligation (T : Tracks m Inv O4 O5) :
    (rdat m Inv O4 O5 c).BodyObligation (defs₀ (F := F)) Variants.none () Set.univ := fun t Y hY => by
  obtain ⟨d2, h2⟩ := finds_2 m Inv O4 O5 c t (Y 2) (hY 2)
  obtain ⟨d3, h3⟩ := finds_3 m Inv O4 O5 c t (Y 3) (hY 3)
  have h0 := finds_0 m Inv O4 O5 c t (Y 0) (hY 0)
  have h1 := finds_1 m Inv O4 O5 c t (Y 1) (hY 1)
  rw [bigSep_W0, bigSep_W0, defs₀_row, h0, h1, h2, h3]
  exact triple_restated (body_any m c t (Y 4) (Y 5) T d2 d3) rfl .rfl fun _ => .rfl

/-- What the launch hands the region is the invariant before the first point. -/
theorem hin : Pipeline.ΦA spec0 c ⊢ (rdat m Inv O4 O5 c).Φ 0 := Idealize.SL.BI.Entails.refl _

/-- After the last point the invariant gives the scratch back, its contents forgotten. -/
theorem hout : (rdat m Inv O4 O5 c).Φ (Fin.last cfg0.N) ⊢ Pipeline.ΦA spec0 c := by
  have hN : cfg0.N = 75 := N_0
  rw [show (rdat m Inv O4 O5 c).Φ (Fin.last cfg0.N) = Phi Inv c cfg0.N from rfl, Phi_pos Inv c (by omega), PhiA0_eq]
  unfold Held
  iintro ⟨%s, -, ⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexact HS3
  iexact Hg

/-! ## The run -/

-- the launch theorem's implicit arguments are found by unifying its conclusion with this one, which takes unfolding plain
-- definitions in a metavariable's type
set_option backward.isDefEq.respectTransparency.types false in
/-- Every weakly fair execution ends with the arrays at what the proof data allow and every semaphore counter at zero. -/
theorem run (T : Tracks m Inv O4 O5) :
    θ_run defs (onTc (τ := τ) (main (F := F))) (s₀ m ρ)
      (fun r => Pipeline.RDat.FramePost cfg0 (rdat m Inv O4 O5) (V m) r ∧ r.2.sem = fun _ => 0) :=
  Pipeline.RDat.θ_run_frame_track (Q' := _) cfgs (0 : Fin 1) launch0 defs₀ Variants.none (rdat m Inv O4 O5) m ρ main
    (hbody := fun c => body_obligation m c T) (hshare := fun c => (rdat m Inv O4 O5 c).share_full fun _ => rfl)
    (howed := fun _ _ => rfl) (V := V m) (hmain := hmain m Variants.none) (hA := A_eq m Inv O4 O5) (hin := hin m) (hout := hout m)

/-- The frame: every execution ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1.arr_in c 0 rfl).trans ((A_eq m _ _ _ c 0).trans (V_main_arg0 m c)),
       ((h.1 c).2 main_arg1 (Pipeline.mem_restRefs_of main_arg1 (by decide) (by decide))).trans (V_main_arg1 m c),
       (h.1.arr_in c 2 rfl).trans ((A_eq m _ _ _ c 2).trans (V_main_arg2 m c)),
       (h.1.arr_in c 3 rfl).trans ((A_eq m _ _ _ c 3).trans (V_main_arg3 m c))⟩, h.2⟩)
    (run m ρ (Tracks.trivial m))

/-- The last point. -/
def lastPoint : Fin cfg0.N := ⟨74, by rw [show cfg0.N = 75 from N_0]; omega⟩

/-- The outputs: every execution ends with the two result arrays at contents of which the outputs' predicates hold. -/
theorem outputs (T : Tracks m Inv O4 O5) : θ_run defs (onTc (τ := τ) (main (F := F))) (s₀ m ρ) (fun r => ∀ c : Dev nD,
      (∃ X, O4 c X ∧ r.2.mem ((c.tc : Thread nD τ).loc main_v1_0) = X)
      ∧ ∃ X, O5 c X ∧ r.2.mem ((c.tc : Thread nD τ).loc main_v1_1) = X) :=
  (θ_run defs _ _).mono (fun r h c => by
    constructor
    · obtain ⟨X, ⟨Y, -, hX⟩, e⟩ := ((h.1 c).1 4).emb_eq_of_wholeAt (t₀ := lastPoint) (by decide +kernel)
      exact ⟨X, hX rfl, funext fun j => e j⟩
    · obtain ⟨X, ⟨Y, -, hX⟩, e⟩ := ((h.1 c).1 5).emb_eq_of_wholeAt (t₀ := lastPoint) (by decide +kernel)
      exact ⟨X, hX rfl, funext fun j => e j⟩)
    (run m ρ T)

end Cert.KernelIdeal.Head

end
-- ==== Proof.Head.Twin.lean ====
/- The kernel as printed and its idealization are one program, so the frame proved of the one is the frame of the other. -/
module

public import proofs.«01_k».proof.Defs
public import proofs.«01_k».proof.Proof.Gen.Kernel
public import proofs.«01_k».proof.Proof.Head.Run

@[expose] public section

set_option maxRecDepth 16384

noncomputable section

namespace Cert.KernelIdeal.Head

open Idealize.ShloMosaic Idealize.SL.Sem

attribute [local instance] Cert.Kernel.Gen.facts Cert.KernelIdeal.Gen.facts

variable {F : FTy → Type} [FloatOps F]

/-- The two programs' body tables are the same. -/
theorem defs₀_twin : Cert.Kernel.defs₀ (F := F) = Cert.KernelIdeal.defs₀ := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l x
  match l, x with
  | 0, (t, s) => rfl
  | ⟨_ + 1, h⟩, _ => exact absurd h (Nat.not_lt.2 (Nat.le_add_left _ _))

/-- So are their definitions with the pipeline's. -/
theorem defs_twin : Cert.Kernel.defs (F := F) = Cert.KernelIdeal.defs := by
  unfold Cert.Kernel.defs Cert.KernelIdeal.defs
  rw [defs₀_twin]; rfl

/-- The frame of the kernel as printed: every execution ends with the argument arrays unchanged and every semaphore
    counter at zero. -/
theorem frame_twin : Cert.quiescent_Kernel := by
  intro m g _
  rw [defs_twin]
  exact frame (F := Bits) m g

end Cert.KernelIdeal.Head

end
-- ==== Proof.Head.Online.lean ====
/- A sum of exponentials taken in one pass over the extended reals: a running maximum and a sum rescaled to it. -/
module

public import Idealize.ShloMosaic.PureOps.Ideal

@[expose] public section

noncomputable section

namespace Cert.Online

open Idealize.ShloMosaic

/-! ## Exponentials of differences -/

/-- A maximum with 0 in place of −∞. -/
def safe (m : EReal) : EReal := if m = ⊥ then 0 else m

/-- The exponential of a difference from a real number, as a real number. -/
def e (M : ℝ) (p : EReal) : ℝ := if p = ⊥ then 0 else Real.exp (p.toReal - M)

/-- Off +∞ the exponential of the difference is that real number. -/
theorem exp_sub_coe (M : ℝ) {p : EReal} (hp : p ≠ ⊤) : Ideal.exp (p - (M : EReal)) = (e M p : EReal) := by
  induction p with
  | bot => rw [EReal.bot_sub, e, if_pos rfl]; rfl
  | coe r => rw [← EReal.coe_sub, e, if_neg (EReal.coe_ne_bot r), EReal.toReal_coe]; rfl
  | top => exact absurd rfl hp

/-- The exponential of a difference of −∞ is nought. -/
theorem exp_bot_sub (x : EReal) : Ideal.exp (⊥ - x) = 0 := by rw [EReal.bot_sub]; rfl

/-- The exponential of a difference from +∞ is nought. -/
theorem exp_sub_top (x : EReal) : Ideal.exp (x - ⊤) = 0 := by
  rw [EReal.sub_top]; rfl

/-- A sum of real numbers, each as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of exponentials of differences, off +∞, is the sum of the real numbers. -/
theorem sum_exp {ι : Type} (s : Finset ι) (p : ι → EReal) (M : ℝ) (h : ∀ i ∈ s, p i ≠ ⊤) :
    ∑ i ∈ s, Ideal.exp (p i - (M : EReal)) = ((∑ i ∈ s, e M (p i) : ℝ) : EReal) := by
  rw [coe_sum]; exact Finset.sum_congr rfl fun i hi => exp_sub_coe M (h i hi)

/-- Rescaling one exponential from a maximum `m` to another. -/
theorem e_mul (m M : ℝ) (p : EReal) : e m p * Real.exp (m - M) = e M p := by
  unfold e
  split
  · rw [zero_mul]
  · rw [← Real.exp_add]; congr 1; ring

/-- Rescaling a sum of exponentials from its own maximum to a real number. -/
theorem rescale {ι : Type} (s : Finset ι) (p : ι → EReal) (M : ℝ) {m : EReal} (hm : m = s.sup p) (ht : m ≠ ⊤) :
    (∑ i ∈ s, Ideal.exp (p i - safe m)) * Ideal.exp (m - (M : EReal)) = ∑ i ∈ s, Ideal.exp (p i - (M : EReal)) := by
  have hp : ∀ i ∈ s, p i ≤ m := fun i hi => hm ▸ Finset.le_sup hi
  have hpt : ∀ i ∈ s, p i ≠ ⊤ := fun i hi h => ht (top_le_iff.mp (h ▸ hp i hi))
  induction m with
  | bot =>
    rw [exp_bot_sub, mul_zero]
    exact (Finset.sum_eq_zero fun i hi => by rw [le_bot_iff.mp (hp i hi), exp_bot_sub]).symm
  | coe r =>
    rw [show safe (r : EReal) = (r : EReal) from if_neg (EReal.coe_ne_bot r), sum_exp s p r hpt, sum_exp s p M hpt,
      exp_sub_coe M (EReal.coe_ne_top r), ← EReal.coe_mul]
    congr 1
    rw [Finset.sum_mul]
    refine Finset.sum_congr rfl fun i _ => ?_
    rw [← e_mul r M (p i), e, e, if_neg (EReal.coe_ne_bot r), EReal.toReal_coe]
  | top => exact absurd rfl ht

/-! ## One lane -/

/-- What a lane holds after `k` entries of `p`: their maximum and, unless that is +∞, the sum of their exponentials with
    the maximum subtracted (0 in its place while it is −∞). -/
def Lane (p : ℕ → EReal) (k : ℕ) (m l : EReal) : Prop :=
  m = (Finset.range k).sup p ∧ (m ≠ ⊤ → l = ∑ g ∈ Finset.range k, Ideal.exp (p g - safe m))

/-- Before any entry: −∞ and nought. -/
theorem Lane.zero (p : ℕ → EReal) : Lane p 0 ⊥ 0 := ⟨by simp, fun _ => by simp⟩

/-- Four more entries at once. -/
theorem Lane.step {p : ℕ → EReal} {k : ℕ} {m l : EReal} (h : Lane p k m l) {m' : EReal}
    (hm' : m' = max (max (max (max m (p k)) (p (k + 1))) (p (k + 2))) (p (k + 3))) :
    Lane p (k + 4) m' (l * Ideal.exp (m - safe m') + Ideal.exp (p k - safe m') + Ideal.exp (p (k + 1) - safe m')
      + Ideal.exp (p (k + 2) - safe m') + Ideal.exp (p (k + 3) - safe m')) := by
  refine ⟨?_, fun ht => ?_⟩
  · rw [hm', h.1]
    simp only [Finset.range_add_one, Finset.sup_insert]
    simp only [max_comm, max_left_comm, max_assoc]
  · have hmt : m ≠ ⊤ := fun e => ht (by rw [hm', e]; simp)
    obtain ⟨M, hM⟩ : ∃ M : ℝ, safe m' = (M : EReal) := by
      unfold safe
      split
      · exact ⟨0, rfl⟩
      · next hb => exact ⟨m'.toReal, (EReal.coe_toReal ht hb).symm⟩
    rw [hM, h.2 hmt, rescale _ p M h.1 hmt]
    simp only [Finset.sum_range_succ]

/-! ## All lanes together -/

/-- The `n` entries `X`, followed by −∞ for ever. -/
def pad {n : ℕ} (X : Fin n → EReal) (c : ℕ) : EReal := if h : c < n then X ⟨c, h⟩ else ⊥

theorem pad_lt {n : ℕ} (X : Fin n → EReal) {c : ℕ} (h : c < n) : pad X c = X ⟨c, h⟩ := dif_pos h

/-- The sum over the lanes of the sums within a lane is the sum over all entries. -/
theorem sum_lanes {w K n : ℕ} (hn : n ≤ K * w) (X : Fin n → EReal) (f : EReal → EReal) (hf : f ⊥ = 0) :
    ∑ a : Fin w, ∑ g ∈ Finset.range K, f (pad X (w * g + a.val)) = ∑ c : Fin n, f (X c) := by
  have h1 : ∀ a : Fin w, ∑ g ∈ Finset.range K, f (pad X (w * g + a.val)) = ∑ g : Fin K, f (pad X (w * g.val + a.val)) := fun a =>
    (Finset.sum_range fun g => f (pad X (w * g + a.val)))
  simp only [h1]
  rw [Finset.sum_comm]
  have h2 : ∑ g : Fin K, ∑ a : Fin w, f (pad X (w * g.val + a.val)) = ∑ c : Fin (K * w), f (pad X c.val) := by
    rw [← Fintype.sum_prod_type', ← finProdFinEquiv.sum_comp]
    refine Finset.sum_congr rfl fun x _ => ?_
    rw [finProdFinEquiv_apply_val, Nat.add_comm]
  rw [h2, ← Finset.sum_range fun c => f (pad X c)]
  rw [← Finset.sum_subset (Finset.range_subset_range.mpr hn) fun c _ hc => by
    rw [show pad X c = ⊥ from dif_neg fun h => hc (Finset.mem_range.mpr h), hf]]
  rw [Finset.sum_range fun c => f (pad X c)]
  exact Finset.sum_congr rfl fun c _ => by rw [pad_lt X c.isLt]

/-- The maximum over the lanes of the maxima within a lane is the maximum of all entries. -/
theorem sup_lanes {w K n : ℕ} (hw : 0 < w) (hn : n ≤ K * w) (X : Fin n → EReal) :
    Finset.univ.sup (fun a : Fin w => (Finset.range K).sup fun g => pad X (w * g + a.val)) = Finset.univ.sup X := by
  apply le_antisymm
  · refine Finset.sup_le fun a _ => Finset.sup_le fun g _ => ?_
    unfold pad
    split
    · exact Finset.le_sup (f := X) (Finset.mem_univ _)
    · exact bot_le
  · refine Finset.sup_le fun c _ => ?_
    have hc : c.val / w < K := Nat.div_lt_of_lt_mul (by rw [Nat.mul_comm]; exact lt_of_lt_of_le c.isLt hn)
    refine le_trans ?_ (Finset.le_sup (f := fun a : Fin w => (Finset.range K).sup fun g => pad X (w * g + a.val))
      (Finset.mem_univ (⟨c.val % w, Nat.mod_lt _ hw⟩ : Fin w)))
    refine le_trans ?_ (Finset.le_sup (f := fun g => pad X (w * g + c.val % w)) (Finset.mem_range.mpr hc))
    rw [Nat.div_add_mod, pad_lt X c.isLt]

/-- The lanes' sums, each rescaled to the overall maximum and added up, are the sum of all entries' exponentials with that
    maximum subtracted — at every extended real. -/
theorem total {w K n : ℕ} (hw : 0 < w) (hn : n ≤ K * w) (X : Fin n → EReal) (m l : Fin w → EReal)
    (h : ∀ a, Lane (fun g => pad X (w * g + a.val)) K (m a) (l a)) :
    Finset.univ.sup m = Finset.univ.sup X ∧
      ∑ a, l a * Ideal.exp (m a - Finset.univ.sup X) = ∑ c, Ideal.exp (X c - Finset.univ.sup X) := by
  have hs : Finset.univ.sup m = Finset.univ.sup X := by
    rw [← sup_lanes hw hn X]
    exact Finset.sup_congr rfl fun a _ => (h a).1
  refine ⟨hs, ?_⟩
  have hX : ∀ c, X c ≤ Finset.univ.sup X := fun c => Finset.le_sup (Finset.mem_univ c)
  have hm : ∀ a, m a ≤ Finset.univ.sup X := fun a => hs ▸ Finset.le_sup (Finset.mem_univ a)
  generalize Finset.univ.sup X = top at hX hm hs
  induction top with
  | bot =>
    rw [Finset.sum_eq_zero fun a _ => by rw [le_bot_iff.mp (hm a), exp_bot_sub, mul_zero],
      Finset.sum_eq_zero fun c _ => by rw [le_bot_iff.mp (hX c), exp_bot_sub]]
  | coe M =>
    rw [← sum_lanes hn X (fun x => Ideal.exp (x - (M : EReal))) (exp_bot_sub _)]
    refine Finset.sum_congr rfl fun a _ => ?_
    have ht : m a ≠ ⊤ := fun e => absurd (e ▸ hm a) (by simp)
    rw [(h a).2 ht]
    exact rescale _ _ M (h a).1 ht
  | top => simp only [exp_sub_top, mul_zero, Finset.sum_const_zero]

/-! ## The entry at a target -/

/-- What a lane's target cell holds after `k` groups: the entry at the target if it is this lane's and has been met. -/
def hit {n : ℕ} (X : Fin n → EReal) (w : ℕ) (t a k : ℕ) : EReal := if t % w = a ∧ t / w < k then pad X t else 0

/-- Added up over the lanes, once the target has been met, it is the entry at the target. -/
theorem sum_hit {n w k : ℕ} (hw : 0 < w) (X : Fin n → EReal) {t : ℕ} (ht : t < n) (hk : t / w < k) :
    ∑ a : Fin w, hit X w t a.val k = X ⟨t, ht⟩ := by
  rw [Finset.sum_eq_single (⟨t % w, Nat.mod_lt _ hw⟩ : Fin w)]
  · rw [hit, if_pos ⟨rfl, hk⟩, pad_lt X ht]
  · intro a _ ha
    exact if_neg fun h => ha (Fin.ext h.1.symm)
  · exact fun h => absurd (Finset.mem_univ _) h

/-- One more group. -/
theorem hit_succ {n : ℕ} (X : Fin n → EReal) {w t a k : ℕ} (ha : a < w) :
    hit X w t a (k + 1) = if t = w * k + a then pad X (w * k + a) else hit X w t a k := by
  have hw : 0 < w := by omega
  unfold hit
  have hq : t = w * k + a ↔ t % w = a ∧ t / w = k := by
    constructor
    · intro h; subst h
      exact ⟨by rw [Nat.mul_add_mod, Nat.mod_eq_of_lt ha], by rw [Nat.mul_add_div hw, Nat.div_eq_of_lt ha, Nat.add_zero]⟩
    · rintro ⟨h1, h2⟩; rw [← h1, ← h2]; exact (Nat.div_add_mod t w).symm
  by_cases h : t = w * k + a
  · have := hq.mp h
    rw [if_pos h, if_pos ⟨this.1, by omega⟩, ← h]
  · rw [if_neg h]
    by_cases h1 : t % w = a ∧ t / w < k
    · rw [if_pos h1, if_pos ⟨h1.1, by omega⟩]
    · rw [if_neg h1, if_neg]
      rintro ⟨h2, h3⟩
      have : t / w ≠ k := fun h4 => h (hq.mpr ⟨h2, h4⟩)
      exact h1 ⟨h2, by omega⟩

/-- The log-sum-exp of a row of logits, the largest subtracted first. -/
def lse {n : ℕ} (X : Fin n → EReal) : EReal :=
  Ideal.log (∑ c, Ideal.exp (X c - Finset.univ.sup X)) + Finset.univ.sup X

end Cert.Online

end
-- ==== Proof.Head.Spec.lean ====
/- The quantities both programs compute, over the extended reals. -/
module

public import Idealize.ShloMosaic.PureOps.Ideal
public import proofs.«01_k».proof.Proof.Head.Online

@[expose] public section

noncomputable section

namespace Cert.Spec

open Idealize.ShloMosaic

/-- Two to the power a scale byte names. -/
def pow2 (s : BitVec 8) : EReal := (Real.rpow 2 ((s.toNat : ℝ) - 127) : ℝ)

/-- A row's logit at a column: the row against the column's codes, each times two to the power its block's scale byte names. -/
def logit (h : Fin 256 → Fin 2560 → EReal) (w : Fin 2560 → Fin 151936 → EReal) (s : Fin 80 → Fin 151936 → BitVec 8)
    (r : Fin 256) (c : Fin 151936) : EReal :=
  ∑ k, h r k * (w k c * pow2 (s ⟨k.val / 32, by omega⟩ c))

/-- The first result of a target's logit and a log-sum-exp. -/
def lpOf (z l : EReal) : EReal := z - l + Ideal.ofBits .f32 0x413EE641#32

/-- The second result of a log-sum-exp. -/
def lseOf (l : EReal) : EReal := l - Ideal.ofBits .f32 0x413EE641#32

end Cert.Spec

end
-- ==== Proof.Head.Logits.lean ====
/- The logits of a chunk of the head kernel, read over the extended reals. -/
module

public import proofs.«01_k».proof.Proof.Head.Spec
public import proofs.«01_k».proof.Proof.Head.Run
public import Idealize.ShloMosaic.Lib.Pointwise
public import Idealize.ShloMosaic.Lib.StableHlo.ReadAt
public import Idealize.ShloMosaic.Lib.BitcastPair
public import Idealize.ShloMosaic.Lib.Pipeline.ValueKit.Geometry

@[expose] public section

set_option maxRecDepth 16384

noncomputable section

namespace Cert.KernelIdeal.Head

open Cert.KernelIdeal Cert.KernelIdeal.Gen
open Idealize.ShloMosaic Idealize.ShloMosaic.TcCoe Idealize.SL.Sem

/-! ## The scale words -/

/-- The word holding a scale byte in the exponent place of both its halves. -/
def word (b : BitVec 8) : BitVec 32 := (b.setWidth 32 <<< 7) ||| (b.setWidth 32 <<< 23)

/-- A half of the word is the float whose exponent is the byte. -/
theorem half_word (b : BitVec 8) (n : ℕ) (hn : n < 2) : ((word b).extractLsb' (16 * n) 16) = (b.setWidth 16 <<< 7) := by
  unfold word
  interval_cases n <;> revert b <;> decide +kernel

/-- That float is two to the power the byte names. -/
theorem ofBits_exponent (b : BitVec 8) (h1 : 1 ≤ b.toNat) (h2 : b.toNat ≤ 254) : Ideal.ofBits .bf16 (b.setWidth 16 <<< 7) = Spec.pow2 b := by
  show Ideal.ieee 8 7 (b.setWidth 16 <<< 7) = _
  have e0 : (BitVec.extractLsb' (8 + 7) 1 (b.setWidth 16 <<< 7) == 1#1) = false := by clear h1 h2; revert b; decide +kernel
  have e1 : (BitVec.extractLsb' 7 8 (b.setWidth 16 <<< 7)) = b := by clear h1 h2 e0; revert b; decide +kernel
  have e2 : (BitVec.extractLsb' 0 7 (b.setWidth 16 <<< 7)).toNat = 0 := by clear h1 h2 e0 e1; revert b; decide +kernel
  unfold Ideal.ieee Spec.pow2
  simp only [e0, e1, e2]
  rw [if_neg (by omega), if_neg (by omega)]
  refine congrArg _ ?_
  have h : ((b.toNat : ℝ) - 127) = (((b.toNat : ℤ) - 127 : ℤ) : ℝ) := by push_cast; ring
  show _ = (2 : ℝ) ^ ((b.toNat : ℝ) - 127)
  rw [h, Real.rpow_intCast]
  have h3 : ((b.toNat : ℤ) - 127) = ((b.toNat : ℤ) - ((2 : ℕ) ^ (8 - 1) - 1 : ℕ) - (7 : ℕ)) + 7 := by norm_num
  rw [h3, zpow_add₀ (by norm_num)]
  norm_num [mul_comm]

/-- A row of words broadcast over eight, read at half width: each entry is a half of its column's word. -/
theorem scaleRows_apply (s : Vec Ideal S1x512 .i32) (b : BitVec 8) (h1 : 1 ≤ b.toNat) (h2 : b.toNat ≤ 254) (i : Fin 16) (c : Fin 512)
    (hs : s (ix2 0 c) = word b) : scaleRows s (ix2 i c) = Spec.pow2 b := by
  unfold scaleRows
  pointwise []
  rw [bitcast_32_16]
  refine (congrArg (Ideal.ofBits .bf16) ?_).trans (ofBits_exponent b h1 h2)
  rw [← half_word b (S16x512.row (ix2 i c) % 2) (by omega), ← hs]
  refine congrArg (BitVec.extractLsb' (16 * (S16x512.row (ix2 i c) % 2)) 16) ?_
  generalize hj : Shape.Bitcasts.srcIdx _ _ _ _ = j
  have hj1 : j 1 = c := by rw [← hj]; exact Fin.ext (Shape.Bitcasts.srcIdx_other _ _ _ _ 1 (by decide))
  rw [show j = ix2 (j 0) c from by rw [← hj1]; funext a; match a with | ⟨0, _⟩ => rfl | ⟨1, _⟩ => rfl]
  pointwise []

/-! ## The widened chunk -/

/-- An entry of sixteen rows of the widened chunk. -/
theorem part_apply (w : Vec Ideal S2560x512 .fp8e4m3) (sc : Fin 80 → Vec Ideal S1x512 .i32) (k : Fin 160) (i : Fin 16) (c : Fin 512)
    (b : BitVec 8) (h1 : 1 ≤ b.toNat) (h2 : b.toNat ≤ 254) (hs : sc ⟨k.val / 2, by omega⟩ (ix2 0 c) = word b) :
    part w sc k (ix2 i c) = (w (ix2 ⟨16 * k.val + i.val, by omega⟩ c) : EReal) * Spec.pow2 b := by
  have h := scaleRows_apply _ b h1 h2 i c hs
  unfold part
  pointwise []
  rw [h]
  refine congrArg (fun j => (w (ix2 j c) : EReal) * Spec.pow2 b) (Fin.ext ?_)
  show 32 * (k.val / 2) + (16 * (k.val % 2) + i.val) = 16 * k.val + i.val
  omega

/-- An entry of the widened chunk: the code times two to the power its block's scale byte names. -/
theorem widened_apply (w : Vec Ideal S2560x512 .fp8e4m3) (sc : Fin 80 → Vec Ideal S1x512 .i32) (b : Fin 80 → BitVec 8) (c : Fin 512)
    (h1 : ∀ n, 1 ≤ (b n).toNat) (h2 : ∀ n, (b n).toNat ≤ 254) (hs : ∀ n, sc n (ix2 0 c) = word (b n)) (k : Fin 2560) :
    widened w sc (ix2 k c) = (w (ix2 k c) : EReal) * Spec.pow2 (b ⟨k.val / 32, by omega⟩) := by
  unfold widened
  refine (concatenate_ofFn_apply (t := S2560x512) (s₁ := S16x512) (N := 160) 0 (fun n => part w sc n) (concat_parts w sc) rfl 16 rfl (ix2 k c)
    ⟨k.val / 16, by omega⟩ rfl (ix2 ⟨k.val % 16, by omega⟩ c) rfl (fun a ha => ?_)).trans ?_
  · match a with
    | ⟨0, _⟩ => exact absurd rfl ha
    | ⟨1, _⟩ => rfl
  rw [part_apply w sc _ _ c (b ⟨k.val / 16 / 2, by omega⟩) (h1 ⟨k.val / 16 / 2, by omega⟩) (h2 ⟨k.val / 16 / 2, by omega⟩) (hs ⟨k.val / 16 / 2, by omega⟩)]
  have e1 : (⟨16 * (k.val / 16) + k.val % 16, by omega⟩ : Fin 2560) = k := Fin.ext (by show 16 * (k.val / 16) + k.val % 16 = k.val; omega)
  have e2 : (⟨k.val / 16 / 2, by omega⟩ : Fin 80) = ⟨k.val / 32, by omega⟩ := Fin.ext (by show k.val / 16 / 2 = k.val / 32; omega)
  rw [e2]
  exact congrArg (fun j => (w (ix2 j c) : EReal) * Spec.pow2 (b ⟨k.val / 32, by omega⟩)) e1

/-- A logit of a chunk. -/
theorem logits_apply (x : Vec Ideal S256x2560 .bf16) (w : Vec Ideal S2560x512 .fp8e4m3) (sc : Fin 80 → Vec Ideal S1x512 .i32)
    (b : Fin 80 → BitVec 8) (c : Fin 512) (h1 : ∀ n, 1 ≤ (b n).toNat) (h2 : ∀ n, (b n).toNat ≤ 254)
    (hs : ∀ n, sc n (ix2 0 c) = word (b n)) (r : Fin 256) :
    logits x w sc (ix2 r c) = ∑ k : Fin 2560, (x (ix2 r k) : EReal) * ((w (ix2 k c) : EReal) * Spec.pow2 (b ⟨k.val / 32, by omega⟩)) := by
  have h := fun k => widened_apply w sc b c h1 h2 hs k
  unfold logits
  pointwise []
  exact Finset.sum_congr rfl fun k _ => congrArg (fun e : EReal => (x (ix2 r k) : EReal) * e) (h k)

/-! ## The blocks -/

/-- An entry of a chunk of the scale words. -/
theorem sChunk_apply (x3 : Vec Ideal S80x2048 .i8) (j : Fin 4) (n : Fin 80) (c : Fin 512) :
    sChunk x3 j n (ix2 0 c) = word (x3 (ix2 n ⟨512 * j.val + c.val, by omega⟩)) := by
  unfold sChunk VecWindow.window
  have e : (Rect.unit (s := S80x2048) ![n.val, 512 * j.val] S1x512.size (inb_words j n)).emb (ix2 (0 : Fin 1) c) = (ix2 n (⟨512 * j.val + c.val, by omega⟩ : Fin 2048) : S80x2048.Idx) := by
    funext a
    match a with
    | ⟨0, _⟩ => exact Fin.ext (by rw [Rect.emb_apply]; rfl)
    | ⟨1, _⟩ => exact Fin.ext (by rw [Rect.emb_apply]; show 512 * j.val + 1 * c.val = 512 * j.val + c.val; omega)
  show k0_pay9 x3 _ = _
  rw [e]
  pointwise [k0_pay9]
  rfl

/-- An entry of a chunk of the codes. -/
theorem wChunk_apply (x2 : Vec Ideal S2560x2048 .fp8e4m3) (j : Fin 4) (k : Fin 2560) (c : Fin 512) :
    wChunk x2 j (ix2 k c) = x2 (ix2 k ⟨512 * j.val + c.val, by omega⟩) := by
  unfold wChunk VecWindow.window
  refine congrArg x2 ?_
  funext a
  match a with
  | ⟨0, _⟩ => exact Fin.ext (by rw [Rect.emb_apply]; show 0 + 1 * k.val = k.val; omega)
  | ⟨1, _⟩ => exact Fin.ext (by rw [Rect.emb_apply]; show 512 * j.val + 1 * c.val = 512 * j.val + c.val; omega)

variable (m : (ℓ : Loc nD τ sig) → Buf (Elt Ideal) ℓ)

/-- The rows' block is the rows at every point. -/
theorem blk_rows (c : Dev nD) (t : Fin cfg0.N) : iblk m c 0 t = m ((c : Thread nD τ).loc main_arg0) := by
  unfold iblk
  funext i
  blk_simp
  refine (congrArg (V m c main_arg0) ?_).trans (congrFun (V_main_arg0 m c) _)
  have e : ∀ a, win0_0.index t a = 0 := fun a => (by decide +kernel : ∀ t a, win0_0.index t a = 0) t a
  blk_ext <;> simp only [e] <;> omega

/-- The codes' staging buffer at a column of the array. -/
theorem codesAt_apply (c : Dev nD) (t : Fin cfg0.N) (d : Vec Ideal S2560x2048 .fp8e4m3) (k : Fin 2560) (x : Fin 2048)
    (h : 2048 * t.val + x.val < 151936) : codesAt m c t d (ix2 k x) = m ((c : Thread nD τ).loc main_arg2) (ix2 k ⟨2048 * t.val + x.val, h⟩) := by
  have e0 : win0_2.index t 0 = 0 := (by decide +kernel : ∀ t, win0_2.index t 0 = 0) t
  have e1 : win0_2.index t 1 = t.val := (by decide +kernel : ∀ t, win0_2.index t 1 = t.val) t
  have x0 : win0_2.xsize (grid0.coords t) 0 = 2560 := (by decide +kernel : ∀ t, win0_2.xsize (grid0.coords t) 0 = 2560) t
  have x1 : win0_2.xsize (grid0.coords t) 1 = min 2048 (151936 - 2048 * t.val) :=
    (by decide +kernel : ∀ t, win0_2.xsize (grid0.coords t) 1 = min 2048 (151936 - 2048 * t.val)) t
  unfold codesAt Pipeline.Window.fill
  rw [dif_pos ?_]
  · unfold iblk
    blk_simp
    refine (congrArg (V m c main_arg2) ?_).trans (congrFun (V_main_arg2 m c) _)
    blk_ext <;> simp only [e0, e1] <;> omega
  · rw [Pipeline.Window.moved_iff]
    intro a
    match a with
    | ⟨0, _⟩ => exact lt_of_lt_of_eq k.isLt x0.symm
    | ⟨1, _⟩ => exact lt_of_lt_of_eq (by omega : x.val < min 2048 (151936 - 2048 * t.val)) x1.symm

/-- The scales' staging buffer at a column of the array. -/
theorem scalesAt_apply (c : Dev nD) (t : Fin cfg0.N) (d : Vec Ideal S80x2048 .i8) (k : Fin 80) (x : Fin 2048)
    (h : 2048 * t.val + x.val < 151936) : scalesAt m c t d (ix2 k x) = m ((c : Thread nD τ).loc main_arg3) (ix2 k ⟨2048 * t.val + x.val, h⟩) := by
  have e0 : win0_3.index t 0 = 0 := (by decide +kernel : ∀ t, win0_3.index t 0 = 0) t
  have e1 : win0_3.index t 1 = t.val := (by decide +kernel : ∀ t, win0_3.index t 1 = t.val) t
  have x0 : win0_3.xsize (grid0.coords t) 0 = 80 := (by decide +kernel : ∀ t, win0_3.xsize (grid0.coords t) 0 = 80) t
  have x1 : win0_3.xsize (grid0.coords t) 1 = min 2048 (151936 - 2048 * t.val) :=
    (by decide +kernel : ∀ t, win0_3.xsize (grid0.coords t) 1 = min 2048 (151936 - 2048 * t.val)) t
  unfold scalesAt Pipeline.Window.fill
  rw [dif_pos ?_]
  · unfold iblk
    blk_simp
    refine (congrArg (V m c main_arg3) ?_).trans (congrFun (V_main_arg3 m c) _)
    blk_ext <;> simp only [e0, e1] <;> omega
  · rw [Pipeline.Window.moved_iff]
    intro a
    match a with
    | ⟨0, _⟩ => exact lt_of_lt_of_eq k.isLt x0.symm
    | ⟨1, _⟩ => exact lt_of_lt_of_eq (by omega : x.val < min 2048 (151936 - 2048 * t.val)) x1.symm

/-- The targets' block at a point: the targets, row by row. -/
theorem blk_targets (c : Dev nD) (t : Fin cfg0.N) (r : Fin 256) :
    iblk m c 1 t (ix2 r 0) = m ((c : Thread nD τ).loc main_arg1) (ix2 ⟨r.val / 128, by omega⟩ ⟨r.val % 128, by omega⟩) := by
  have e : ∀ a, win0_1.index t a = 0 := fun a => (by decide +kernel : ∀ t a, win0_1.index t a = 0) t a
  unfold iblk
  blk_simp
  refine (congrArg (V m c main_v0) (?_ : _ = ix2 r 0)).trans ?_
  · blk_ext <;> simp only [e] <;> omega
  unfold V
  after_reads_at

end Cert.KernelIdeal.Head

end
-- ==== Proof.Head.Chunk.lean ====
/- One chunk of the head kernel, read over the extended reals. -/
module

public import proofs.«01_k».proof.Proof.Head.Block
public import proofs.«01_k».proof.Proof.Head.Online
public import Idealize.ShloMosaic.Lib.Pointwise
public import Idealize.ShloMosaic.Lib.WordArith

@[expose] public section

set_option maxRecDepth 16384

noncomputable section

namespace Cert.KernelIdeal.Head

open Cert.KernelIdeal Cert.KernelIdeal.Gen Cert.Online
open Idealize.ShloMosaic

/-! ## Words and constants -/

/-- The word of −∞ denotes −∞. -/
theorem ofBits_neg_inf : Ideal.ofBits .f32 0xFF800000#32 = ⊥ := by
  show Ideal.ieee 8 23 (0xFF800000#32) = ⊥
  unfold Ideal.ieee
  exact (if_pos (by decide)).trans ((if_pos (by decide)).trans (if_pos (by decide)))

/-- The first column of chunk `j` of block `n`, as one word. -/
theorem base_eq (n j : ℕ) : base n j = BitVec.ofNat 32 (512 * (4 * n + j)) := by
  unfold base
  show BitVec.ofNat 32 n * BitVec.ofNat 32 2048 + BitVec.ofNat 32 (512 * j) = _
  rw [← BitVec.ofNat_mul, ← BitVec.ofNat_add]
  congr 1; omega

/-- The first column of a group of lanes, as one word. -/
theorem col_eq (J k : ℕ) : col (BitVec.ofNat 32 (512 * J)) k = BitVec.ofNat 32 (128 * (4 * J + k)) := by
  unfold col
  show BitVec.ofNat 32 (512 * J) + BitVec.ofNat 32 (128 * k) = _
  rw [← BitVec.ofNat_add]
  congr 1; omega

/-- The mask keeps exactly the columns inside the vocabulary. -/
theorem mask_iff {q a : ℕ} (hq : q < 1200) (ha : a < 128) :
    IntOp.cmpi .slt (BitVec.ofNat 32 a) (Scalar.subi 151936#32 (BitVec.ofNat 32 (128 * q))) = 1 ↔ 128 * q + a < 151936 := by
  show BitVec.ofBool ((BitVec.ofNat 32 a).slt (151936#32 - BitVec.ofNat 32 (128 * q))) = 1 ↔ _
  have h1 : (BitVec.ofNat 32 a).toInt = a := by rw [BitVec.toInt_ofNat', Int.bmod_def]; omega
  have h2 : (151936#32 - BitVec.ofNat 32 (128 * q)).toInt = 151936 - 128 * (q : ℤ) := by
    rw [BitVec.toInt_sub, BitVec.toInt_ofNat', BitVec.toInt_ofNat', Int.bmod_def, Int.bmod_def, Int.bmod_def]; omega
  rw [BitVec.slt, h1, h2]
  by_cases h : 128 * q + a < 151936
  · rw [decide_eq_true (by omega)]; exact ⟨fun _ => h, fun _ => rfl⟩
  · rw [decide_eq_false (by omega)]; exact ⟨fun e => absurd e (by decide), fun e => absurd e h⟩

/-- The target's word less the lane is a group's first column exactly when the target is that column and lane. -/
theorem target_iff {q a : ℕ} (hq : q < 1200) (ha : a < 128) (x : BitVec 32) :
    IntOp.cmpi .eq (IntOp.subi x (BitVec.ofNat 32 a)) (BitVec.ofNat 32 (128 * q)) = 1 ↔ x.toNat = 128 * q + a := by
  show BitVec.ofBool (x - BitVec.ofNat 32 a == BitVec.ofNat 32 (128 * q)) = 1 ↔ _
  have e : x - BitVec.ofNat 32 a = BitVec.ofNat 32 (128 * q) ↔ x.toNat = 128 * q + a := by
    rw [← BitVec.toNat_inj, BitVec.toNat_sub, BitVec.toNat_ofNat, BitVec.toNat_ofNat]
    have := x.isLt; omega
  by_cases h : x.toNat = 128 * q + a
  · rw [beq_iff_eq.mpr (e.mpr h)]; exact ⟨fun _ => h, fun _ => rfl⟩
  · rw [beq_eq_false_iff_ne.mpr fun h' => h (e.mp h')]; exact ⟨fun e => absurd e (by decide), fun e => absurd e h⟩

/-! ## One chunk -/

/-- A masked group of a chunk's logits holds the logits `X`, followed by −∞ past the vocabulary. -/
theorem masked_apply (X : Fin 256 → Fin 151936 → EReal) (g : FVec Ideal S256x512 .f32) {J : ℕ} (hJ : J < 300)
    (hg : ∀ (r : Fin 256) (cc : Fin 512) (h : 512 * J + cc.val < 151936), g (ix2 r cc) = X r ⟨512 * J + cc.val, h⟩)
    (k : Fin 4) (r : Fin 256) (a : Fin 128) :
    masked g (BitVec.ofNat 32 (512 * J)) k (ix2 r a) = Online.pad (X r) (128 * (4 * J + k.val) + a.val) := by
  pointwise [masked, lanes]
  rw [col_eq]
  unfold Scalar.select Online.pad
  have hm := mask_iff (q := 4 * J + k.val) (by omega) a.isLt
  by_cases h : 128 * (4 * J + k.val) + a.val < 151936
  · rw [if_pos (hm.mpr h), dif_pos h]
    refine (hg r ⟨128 * k.val + a.val, by omega⟩ (by show 512 * J + (128 * k.val + a.val) < _; omega)).trans ?_
    congr 2
    show 512 * J + (128 * k.val + a.val) = _; omega
  · rw [if_neg fun e => h (hm.mp e), dif_neg h, ofBits_neg_inf]

/-- What is carried after `4 J` groups of lanes: each row's and lane's online sum, and the target's logit once met. -/
def Carried (X : Fin 256 → Fin 151936 → EReal) (T : Fin 256 → ℕ) (k : ℕ) (s : Carry Ideal) : Prop :=
  ∀ (r : Fin 256) (a : Fin 128), Lane (fun g => Online.pad (X r) (128 * g + a.val)) k (s.1 (ix2 r a)) (s.2.1 (ix2 r a))
    ∧ s.2.2 (ix2 r a) = hit (X r) 128 (T r) a.val k

/-- Before the first block: −∞, nought and nought. -/
theorem carried_reset (X : Fin 256 → Fin 151936 → EReal) (T : Fin 256 → ℕ) : Carried X T 0 reset := by
  intro r a
  have e0 : (reset (F := Ideal)).1 (ix2 r a) = ⊥ := by pointwise [reset, k0_pay6]; exact ofBits_neg_inf
  have e1 : (reset (F := Ideal)).2.1 (ix2 r a) = 0 := by pointwise [reset, k0_pay7]
  have e2 : (reset (F := Ideal)).2.2 (ix2 r a) = 0 := by pointwise [reset, k0_pay8]
  rw [e0, e1, e2]
  exact ⟨Lane.zero _, (if_neg fun h => absurd h.2 (Nat.not_lt_zero _)).symm⟩

/-- One chunk of four groups keeps it. -/
theorem carried_chunk (X : Fin 256 → Fin 151936 → EReal) (x1 : Vec Ideal S256x1 .i32) (g : FVec Ideal S256x512 .f32) {J : ℕ} (hJ : J < 300)
    (hg : ∀ (r : Fin 256) (cc : Fin 512) (h : 512 * J + cc.val < 151936), g (ix2 r cc) = X r ⟨512 * J + cc.val, h⟩)
    (s : Carry Ideal) (h : Carried X (fun r => (x1 (ix2 r 0)).toNat) (4 * J) s) :
    Carried X (fun r => (x1 (ix2 r 0)).toNat) (4 * (J + 1)) (chunkStep x1 g (BitVec.ofNat 32 (512 * J)) s) := by
  intro r a
  have hs := h r a
  have hmk := fun k : Fin 4 => masked_apply X g hJ hg k r a
  have m0 := hmk 0
  have m1 := hmk 1
  have m2 := hmk 2
  have m3 := hmk 3
  have em : mChunk g (BitVec.ofNat 32 (512 * J)) s.1 (ix2 r a)
      = max (max (max (max (s.1 (ix2 r a)) (Online.pad (X r) (128 * (4 * J) + a.val))) (Online.pad (X r) (128 * (4 * J + 1) + a.val)))
          (Online.pad (X r) (128 * (4 * J + 2) + a.val))) (Online.pad (X r) (128 * (4 * J + 3) + a.val)) := by
    pointwise [mChunk]
    rw [m0, m1, m2, m3]; rfl
  have e0 : (chunkStep x1 g (BitVec.ofNat 32 (512 * J)) s).1 (ix2 r a) = mChunk g (BitVec.ofNat 32 (512 * J)) s.1 (ix2 r a) := by
    pointwise [chunkStep, mKept]
  have e1 : (chunkStep x1 g (BitVec.ofNat 32 (512 * J)) s).2.1 (ix2 r a)
      = s.2.1 (ix2 r a) * Ideal.exp (s.1 (ix2 r a) - Online.safe (mChunk g (BitVec.ofNat 32 (512 * J)) s.1 (ix2 r a)))
        + Ideal.exp (Online.pad (X r) (128 * (4 * J) + a.val) - Online.safe (mChunk g (BitVec.ofNat 32 (512 * J)) s.1 (ix2 r a)))
        + Ideal.exp (Online.pad (X r) (128 * (4 * J + 1) + a.val) - Online.safe (mChunk g (BitVec.ofNat 32 (512 * J)) s.1 (ix2 r a)))
        + Ideal.exp (Online.pad (X r) (128 * (4 * J + 2) + a.val) - Online.safe (mChunk g (BitVec.ofNat 32 (512 * J)) s.1 (ix2 r a)))
        + Ideal.exp (Online.pad (X r) (128 * (4 * J + 3) + a.val) - Online.safe (mChunk g (BitVec.ofNat 32 (512 * J)) s.1 (ix2 r a))) := by
    pointwise [chunkStep, lChunk, safe]
    rw [ofBits_neg_inf, m0, m1, m2, m3]; rfl
  have e2 : (chunkStep x1 g (BitVec.ofNat 32 (512 * J)) s).2.2 (ix2 r a)
      = if (x1 (ix2 r 0)).toNat = 128 * (4 * J + 3) + a.val then Online.pad (X r) (128 * (4 * J + 3) + a.val)
        else if (x1 (ix2 r 0)).toNat = 128 * (4 * J + 2) + a.val then Online.pad (X r) (128 * (4 * J + 2) + a.val)
        else if (x1 (ix2 r 0)).toNat = 128 * (4 * J + 1) + a.val then Online.pad (X r) (128 * (4 * J + 1) + a.val)
        else if (x1 (ix2 r 0)).toNat = 128 * (4 * J) + a.val then Online.pad (X r) (128 * (4 * J) + a.val)
        else s.2.2 (ix2 r a) := by
    pointwise [chunkStep, zChunk, targetLess, lanes]
    rw [m0, m1, m2, m3, col_eq, col_eq, col_eq, col_eq]
    unfold Scalar.select
    simp only [target_iff (show 4 * J + 3 < 1200 by omega) a.isLt, target_iff (show 4 * J + 2 < 1200 by omega) a.isLt,
      target_iff (show 4 * J + 1 < 1200 by omega) a.isLt, target_iff (show 4 * J + 0 < 1200 by omega) a.isLt]
    rfl
  refine ⟨?_, ?_⟩
  · rw [e0, e1]; exact hs.1.step em
  · rw [e2, hs.2]
    show _ = hit _ _ _ _ (4 * J + 3 + 1)
    rw [hit_succ _ a.isLt, hit_succ _ a.isLt, hit_succ _ a.isLt, hit_succ _ a.isLt]

/-- One block of four chunks keeps it. -/
theorem carried_block (X : Fin 256 → Fin 151936 → EReal) (x0 : Vec Ideal S256x2560 .bf16) (x1 : Vec Ideal S256x1 .i32)
    (x2 : Vec Ideal S2560x2048 .fp8e4m3) (x3 : Vec Ideal S80x2048 .i8) {n : ℕ} (hn : n < 75)
    (hg : ∀ (j : Fin 4) (r : Fin 256) (cc : Fin 512) (h : 512 * (4 * n + j.val) + cc.val < 151936),
      lg x0 x2 x3 j (ix2 r cc) = X r ⟨512 * (4 * n + j.val) + cc.val, h⟩)
    (s : Carry Ideal) (h : Carried X (fun r => (x1 (ix2 r 0)).toNat) (16 * n) s) :
    Carried X (fun r => (x1 (ix2 r 0)).toNat) (16 * (n + 1)) (blockStep n x0 x1 x2 x3 s) := by
  unfold blockStep
  rw [base_eq, base_eq, base_eq, base_eq]
  have h' : Carried X (fun r => (x1 (ix2 r 0)).toNat) (4 * (4 * n + 0)) s := by
    rw [show 4 * (4 * n + 0) = 16 * n by omega]; exact h
  have := carried_chunk X x1 _ (by omega) (hg 3) _ (carried_chunk X x1 _ (by omega) (hg 2) _
    (carried_chunk X x1 _ (by omega) (hg 1) _ (carried_chunk X x1 _ (by omega) (hg 0) s h')))
  exact (show 4 * (4 * n + 3 + 1) = 16 * (n + 1) by omega) ▸ this

end Cert.KernelIdeal.Head

end
-- ==== Proof.Head.Finish.lean ====
/- What the head kernel's outputs hold, read over the extended reals. -/
module

public import proofs.«01_k».proof.Proof.Head.Chunk

@[expose] public section

set_option maxRecDepth 16384

noncomputable section

namespace Cert.KernelIdeal.Head

open Cert.KernelIdeal Cert.KernelIdeal.Gen Cert.Online
open Idealize.ShloMosaic

/-- After all blocks, the second result is the log-sum-exp of the row less the constant. -/
theorem finishLse_apply (X : Fin 256 → Fin 151936 → EReal) (T : Fin 256 → ℕ) (s : Carry Ideal) (h : Carried X T 1200 s) (r : Fin 256) :
    finishLse s (ix2 r 0) = lse (X r) - Ideal.ofBits .f32 0x413EE641#32 := by
  have ht := total (w := 128) (K := 1200) (by decide) (by decide) (X r) (fun a => s.1 (ix2 r a)) (fun a => s.2.1 (ix2 r a)) fun a => (h r a).1
  pointwise [finishLse, k0_pay4, k0_pay3]
  rw [ofBits_neg_inf]
  change Ideal.log (∑ a, s.2.1 (ix2 r a) * Ideal.exp (s.1 (ix2 r a) - Finset.univ.sup fun a => s.1 (ix2 r a)))
    + (Finset.univ.sup fun a => s.1 (ix2 r a)) - _ = _
  rw [ht.1, ht.2]; rfl

/-- After all blocks, the first result is the target's logit less the log-sum-exp of the row, plus the constant. -/
theorem finishLp_apply (X : Fin 256 → Fin 151936 → EReal) (T : Fin 256 → ℕ) (hT : ∀ r, T r < 151936) (s : Carry Ideal)
    (h : Carried X T 1200 s) (r : Fin 256) :
    finishLp s (ix2 r 0) = X r ⟨T r, hT r⟩ - lse (X r) + Ideal.ofBits .f32 0x413EE641#32 := by
  have ht := total (w := 128) (K := 1200) (by decide) (by decide) (X r) (fun a => s.1 (ix2 r a)) (fun a => s.2.1 (ix2 r a)) fun a => (h r a).1
  have hz : ∑ a : Fin 128, s.2.2 (ix2 r a) = X r ⟨T r, hT r⟩ := by
    rw [← sum_hit (w := 128) (by decide) (X r) (hT r) (k := 1200) (by have := hT r; omega)]
    exact Finset.sum_congr rfl fun a _ => (h r a).2
  pointwise [finishLp, k0_pay5, k0_pay3]
  rw [ofBits_neg_inf]
  change ∑ a, s.2.2 (ix2 r a) - (Ideal.log (∑ a, s.2.1 (ix2 r a) * Ideal.exp (s.1 (ix2 r a) - Finset.univ.sup fun a => s.1 (ix2 r a)))
    + (Finset.univ.sup fun a => s.1 (ix2 r a))) + _ = _
  rw [ht.1, ht.2, hz]; rfl

end Cert.KernelIdeal.Head

end
-- ==== Proof.Head.Value.lean ====
/- The head kernel's results, read over the extended reals. -/
module

public import proofs.«01_k».proof.Proof.Head.Logits
public import proofs.«01_k».proof.Proof.Head.Finish

@[expose] public section

set_option maxRecDepth 16384

noncomputable section

namespace Cert.KernelIdeal.Head

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The logits of the arguments on a device. -/
def X (c : Dev nD) : Fin 256 → Fin 151936 → EReal :=
  Spec.logit (fun r k => m ((c : Thread nD τ).loc main_arg0) (ix2 r k)) (fun k j => m ((c : Thread nD τ).loc main_arg2) (ix2 k j))
    (fun b j => m ((c : Thread nD τ).loc main_arg3) (ix2 b j))

/-- A row's target on a device. -/
def target (c : Dev nD) (r : Fin 256) : BitVec 32 :=
  m ((c : Thread nD τ).loc main_arg1) (ix2 ⟨r.val / 128, by omega⟩ ⟨r.val % 128, by omega⟩)

/-- Every scale byte on a device names the exponent of a normal float. -/
def ScalesOk (c : Dev nD) : Prop :=
  ∀ n j, 1 ≤ (m ((c : Thread nD τ).loc main_arg3) (ix2 n j) : BitVec 8).toNat
    ∧ (m ((c : Thread nD τ).loc main_arg3) (ix2 n j) : BitVec 8).toNat ≤ 254

/-- Every target on a device is a column. -/
def TargetsOk (c : Dev nD) : Prop := ∀ r, (target m c r).toNat < 151936

/-- A point's chunk holds the logits of its columns, whatever lies past the arrays' edge. -/
theorem lg_block (c : Dev nD) (hs : ScalesOk m c) (t : Fin cfg0.N) (d2 : Vec Ideal S2560x2048 .fp8e4m3) (d3 : Vec Ideal S80x2048 .i8)
    (j : Fin 4) (r : Fin 256) (x : Fin 512) (h : 512 * (4 * t.val + j.val) + x.val < 151936) :
    lg (iblk m c 0 t) (codesAt m c t d2) (scalesAt m c t d3) j (ix2 r x) = X m c r ⟨512 * (4 * t.val + j.val) + x.val, h⟩ := by
  have hx : 2048 * t.val + (512 * j.val + x.val) < 151936 := by omega
  have ej : (⟨2048 * t.val + (512 * j.val + x.val), hx⟩ : Fin 151936) = ⟨512 * (4 * t.val + j.val) + x.val, h⟩ := Fin.ext (by
    show 2048 * t.val + (512 * j.val + x.val) = 512 * (4 * t.val + j.val) + x.val; omega)
  unfold lg
  rw [blk_rows]
  refine (logits_apply _ _ _ (fun n => m ((c : Thread nD τ).loc main_arg3) (ix2 n ⟨512 * (4 * t.val + j.val) + x.val, h⟩)) x
    (fun n => (hs n _).1) (fun n => (hs n _).2) (fun n => ?_) r).trans ?_
  · rw [sChunk_apply, scalesAt_apply m c t d3 n _ hx, ej]
  · unfold X Spec.logit
    refine Finset.sum_congr rfl fun k _ => ?_
    rw [wChunk_apply, codesAt_apply m c t d2 k _ hx, ej]

/-- A point's block number is the point. -/
theorem block_number (t : Fin cfg0.N) : (grid0.coords t 0).val = t.val := (by decide +kernel : ∀ t, (grid0.coords t 0).val = t.val) t

/-- The invariant of what is carried: after `n` blocks it is the carried state of the first `16 n` lane groups. -/
def Inv (c : Dev nD) (n : ℕ) (s : Carry Ideal) : Prop := Carried (X m c) (fun r => (target m c r).toNat) (16 * n) s

/-- The first result, row by row. -/
def Lp (c : Dev nD) (Z : Vec Ideal S256x1 .f32) : Prop :=
  ∀ r, (h : (target m c r).toNat < 151936) → Z (ix2 r 0) = Spec.lpOf (X m c r ⟨(target m c r).toNat, h⟩) (Online.lse (X m c r))

/-- The second result, row by row. -/
def Lse (c : Dev nD) (Z : Vec Ideal S256x1 .f32) : Prop := ∀ r : Fin 256, Z (ix2 r 0) = Spec.lseOf (Online.lse (X m c r))

/-- The carried state is kept block by block and gives the two results. -/
theorem tracks (hs : ∀ c, ScalesOk m c) (ht : ∀ c, TargetsOk m c) : Tracks m (Inv m) (Lp m) (Lse m) where
  start c := carried_reset _ _
  step c t d2 d3 s h := by
    have hN : t.val < 75 := lt_of_lt_of_eq t.isLt (show cfg0.N = 75 from N_0)
    have e : (fun r => (iblk m c 1 t (ix2 r 0) : BitVec 32).toNat) = fun r => (target m c r).toNat := by
      funext r; exact congrArg BitVec.toNat (blk_targets m c t r)
    rw [block_number]
    have := carried_block (X m c) (iblk m c 0 t) (iblk m c 1 t) (codesAt m c t d2) (scalesAt m c t d3) hN
      (fun j r x hx => lg_block m c (hs c) t d2 d3 j r x hx) s
    rw [e] at this
    exact this h
  lp c s h r _ := finishLp_apply _ _ (ht c) s h r
  lse c s h r := finishLse_apply _ _ s h r

end Cert.KernelIdeal.Head

end
-- ==== Proof.Ref.Host.lean ====
/- The reference's host operations, read over the extended reals. -/
module

public import proofs.«01_k».proof.Proof.Gen.ReferenceIdeal.Frame
public import proofs.«01_k».proof.Proof.Head.Chunk
public import proofs.«01_k».proof.Proof.Head.Spec
public import Idealize.ShloMosaic.Lib.StableHlo.ReadAt
public import Idealize.ShloMosaic.Lib.ValueIdxCore

@[expose] public section

set_option maxRecDepth 16384

noncomputable section

namespace Cert.ReferenceIdeal.Ref

open Cert.ReferenceIdeal Cert.ReferenceIdeal.Gen
open Idealize.ShloMosaic

/-! ## The gather -/

/-- Row `r` of the gather is the operand's row `r` at the column its start index names, when that is one. -/
theorem gather_apply (x : FVec Ideal S256x151936 .f32) (idx : IVec S256x1x1 32) (r : Fin 256)
    (h : (idx (ix3 r 0 0)).toNat < 151936) :
    Host.gather gather_S256x151936_S256x1x1_S256x1_n_1_0_0_1_2_11 x idx (ix2 r 0) = x (ix2 r ⟨(idx (ix3 r 0 0)).toNat, h⟩) := by
  unfold Host.gather
  congr 1
  funext a
  refine Fin.ext ?_
  show gather_S256x151936_S256x1x1_S256x1_n_1_0_0_1_2_11.start (ix2 r 0) idx a
    + gather_S256x151936_S256x1x1_S256x1_n_1_0_0_1_2_11.batchCoord (ix2 r 0) a
    + gather_S256x151936_S256x1x1_S256x1_n_1_0_0_1_2_11.offCoord (ix2 r 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S256x151936_S256x1x1_S256x1_n_1_0_0_1_2_11.operandBatchingDims from List.mem_singleton.mpr rfl)]
    rfl
  · rw [GatherDims.batchCoord_eq_zero _ _ _ (fun h => by simp [gather_S256x151936_S256x1x1_S256x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S256x151936_S256x1x1_S256x1_n_1_0_0_1_2_11.startIndexMap from List.mem_singleton.mpr rfl)]
    have hsi : gather_S256x151936_S256x1x1_S256x1_n_1_0_0_1_2_11.siIdx (ix2 r 0)
        ⟨List.idxOf (1 : Fin 2) gather_S256x151936_S256x1x1_S256x1_n_1_0_0_1_2_11.startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi]
    have e : (idx (ix3 r 0 0)).toInt.toNat = (idx (ix3 r 0 0)).toNat := by
      rw [BitVec.toInt_eq_toNat_of_lt (by omega)]; rfl
    show min (idx (ix3 r 0 0)).toInt.toNat (151936 - 1) = (idx (ix3 r 0 0)).toNat
    rw [e]; omega

/-! ## The three stretches of host operations -/

variable (V : Valuation τ sig (Elt Ideal))

/-- The logits: the rows against the widened weight. -/
def logit (h : Fin 256 → Fin 2560 → EReal) (w : Fin 2560 → Fin 151936 → EReal) (r : Fin 256) (c : Fin 151936) : EReal :=
  ∑ k, h r k * w k c

/-- The rows, as the host operations find them. -/
def rows (r : Fin 256) (k : Fin 2560) : EReal := V (Proc.devRef .tc main_arg0) (ix2 r k)

/-- The widened weight, as the host operations find it. -/
def weight (k : Fin 2560) (c : Fin 151936) : EReal := V (Proc.devRef .tc main_v0) (ix2 k c)

/-- The first stretch leaves the logits, -/
theorem ops1_logits (r : Fin 256) (c : Fin 151936) :
    StableHlo.after (hostOps1 (F := Ideal)) V (Proc.devRef .tc main_v1) (ix2 r c) = logit (rows V) (weight V) r c := by
  after_reads_at
  rfl

/-- their log-sum-exp -/
theorem ops1_lse (r : Fin 256) :
    StableHlo.after (hostOps1 (F := Ideal)) V (Proc.devRef .tc main_v11) (ix1 r) = Online.lse (logit (rows V) (weight V) r) := by
  after_reads_at
  rw [KernelIdeal.Head.ofBits_neg_inf]
  rfl

/-- and the targets as a column. -/
theorem ops1_target (r : Fin 256) : StableHlo.after (hostOps1 (F := Ideal)) V (Proc.devRef .tc main_v13) (ix2 r 0)
    = V (Proc.devRef .tc main_arg1) (ix2 ⟨r.val / 128, by omega⟩ ⟨r.val % 128, by omega⟩) := by
  after_reads_at

/-- The second stretch takes each row's entry at its target, when that is a column, -/
theorem ops2_target (r : Fin 256) (h : (V (Proc.devRef .tc main_v13) (ix2 r 0) : BitVec 32).toNat < 151936) :
    StableHlo.after (hostOps1_1 (F := Ideal)) V (Proc.devRef .tc main_v14) (ix2 r 0)
      = V (Proc.devRef .tc main_v1) (ix2 r ⟨(V (Proc.devRef .tc main_v13) (ix2 r 0) : BitVec 32).toNat, h⟩) := by
  after_reads_at
  generalize hx : (V (Proc.devRef .tc main_v13) (ix2 r 0) : BitVec 32) = x at h
  have hi : x.toInt = x.toNat := BitVec.toInt_eq_toNat_of_lt (by omega)
  have e1 : IntOp.cmpi .slt x 0#32 = 0 := by
    show BitVec.ofBool (x.slt 0#32) = 0
    rw [BitVec.slt, decide_eq_false (by rw [hi, show (0#32 : BitVec 32).toInt = 0 from rfl]; omega)]; rfl
  have e2 : IntOp.cmpi .sge x 0#32 = 1 := by
    show BitVec.ofBool ((0#32 : BitVec 32).sle x) = 1
    rw [BitVec.sle, decide_eq_true (by rw [hi, show (0#32 : BitVec 32).toInt = 0 from rfl]; omega)]; rfl
  have e3 : IntOp.cmpi .sle x 151935#32 = 1 := by
    show BitVec.ofBool (x.sle 151935#32) = 1
    rw [BitVec.sle, decide_eq_true (by rw [hi, show (151935#32 : BitVec 32).toInt = 151935 from rfl]; omega)]; rfl
  have e4 : ∀ y z : BitVec 32, Scalar.select (0 : BitVec 1) y z = z := fun y z => if_neg (by decide)
  simp only [e1, e4, e2, e3]
  have ef : Finset.fold IntOp.andi (1#1) (fun _ : Fin 1 => IntOp.andi (1 : BitVec 1) 1) Finset.univ = 1 := by decide
  refine (congrArg (fun b => Scalar.select b _ _) ef).trans ((if_pos rfl).trans ?_)
  refine (gather_apply _ _ r ?_).trans ?_
  · show BitVec.toNat (Scalar.select (IntOp.cmpi .slt (V (Proc.devRef .tc main_v13) (ix2 r 0)) 0#32) _ _) < 151936
    rw [hx, e1, e4]; exact lt_of_eq_of_lt (congrArg BitVec.toNat hx) h
  · congr 3
    show BitVec.toNat (Scalar.select (IntOp.cmpi .slt (V (Proc.devRef .tc main_v13) (ix2 r 0)) 0#32) _ _) = _
    rw [hx, e1, e4]; exact congrArg BitVec.toNat hx

/-- and leaves the log-sum-exp. -/
theorem ops2_lse : StableHlo.after (hostOps1_1 (F := Ideal)) V (Proc.devRef .tc main_v11) = V (Proc.devRef .tc main_v11) := by
  after_reads_simp

/-- The third stretch forms the first result -/
theorem ops3_lp (r : Fin 256) : StableHlo.after (hostOps1_2 (F := Ideal)) V (Proc.devRef .tc main_v19) (ix2 r 0)
    = Spec.lpOf (V (Proc.devRef .tc main_v14) (ix2 r 0)) (V (Proc.devRef .tc main_v11) (ix1 r)) := by
  after_reads_at
  rfl

/-- and the second. -/
theorem ops3_lse (r : Fin 256) : StableHlo.after (hostOps1_2 (F := Ideal)) V (Proc.devRef .tc main_v22) (ix2 r 0)
    = Spec.lseOf (V (Proc.devRef .tc main_v11) (ix1 r)) := by
  after_reads_at
  rfl

end Cert.ReferenceIdeal.Ref

end
-- ==== Proof.Ref.Value.lean ====
/- The reference's results, read over the extended reals. -/
module

public import proofs.«01_k».proof.Proof.Ref.Host
public import Idealize.ShloMosaic.Lib.Pipeline.ValueKit.Geometry

@[expose] public section

set_option maxRecDepth 16384

noncomputable section

namespace Cert.ReferenceIdeal.Ref

open Cert.ReferenceIdeal Cert.ReferenceIdeal.Gen
open Idealize.ShloMosaic Idealize.ShloMosaic.TcCoe Idealize.SL.Sem

/-! ## The widened weight -/

/-- The exponent a scale byte names, as the reference computes it. -/
theorem exponent_eq (s : BitVec 8) : (IntOp.subi (BitVec.setWidth 32 s) 127#32).toInt = (s.toNat : ℤ) - 127 := by
  show (BitVec.setWidth 32 s - 127#32).toInt = _
  have := s.isLt
  rw [BitVec.toInt_sub, BitVec.toInt_setWidth, BitVec.toInt_ofNat', Int.bmod_def, Int.bmod_def, Int.bmod_def]
  omega

/-- The widened weight's entry: the code times two to the power its block's scale byte names. -/
theorem widen_apply (x0 : Vec Ideal S2560x151936 .fp8e4m3) (x1 : Vec Ideal S80x151936 .i8) (k : Fin 2560) (c : Fin 151936) :
    k0_pay1 x1 x0 (ix2 k c) = (x0 (ix2 k c) : EReal) * Spec.pow2 (x1 (ix2 ⟨k.val / 32, by omega⟩ c)) := by
  pointwise [k0_pay1]
  refine congrArg (fun e : EReal => x0 (ix2 k c) * e) ?_
  show Ideal.exp2 (((IntOp.subi (BitVec.setWidth 32 (x1 (ix2 ⟨k.val / 32, _⟩ c))) 127#32).toInt : ℝ) : EReal) = _
  rw [exponent_eq, Ideal.exp2_coe]
  unfold Spec.pow2
  norm_num

variable (m : (ℓ : Loc nD τ sig) → Buf (Elt Ideal) ℓ) (ρ : Dev nD → PrngReg)

/-- The one point's block of the codes is the codes. -/
theorem blk_codes (c : Dev nD) : iblk m c 0 t0_0 = m ((c : Thread nD τ).loc main_arg2) := by
  unfold iblk
  funext i
  blk_simp
  refine congrArg (m ((c : Thread nD τ).loc main_arg2)) ?_
  have e : ∀ a, win0_0.index t0_0 a = 0 := by decide +kernel
  blk_ext <;> simp only [e] <;> omega

/-- The one point's block of the scales is the scales. -/
theorem blk_scales (c : Dev nD) : iblk m c 1 t0_0 = m ((c : Thread nD τ).loc main_arg3) := by
  unfold iblk
  funext i
  blk_simp
  refine congrArg (m ((c : Thread nD τ).loc main_arg3)) ?_
  have e : ∀ a, win0_1.index t0_0 a = 0 := by decide +kernel
  blk_ext <;> simp only [e] <;> omega

/-- What the body leaves is the widened weight of the two blocks. -/
theorem out_eq (x0 : Vec Ideal S2560x151936 .fp8e4m3) (x1 : Vec Ideal S80x151936 .i8) : out0_2 x0 x1 = k0_pay1 x1 x0 := by
  have hr : ∀ i : S2560x151936.Idx, r0_1.emb i = i := fun i => by funext a; exact Fin.ext (by fin_cases a <;> simp [r0_1, Rect.emb, Rect.unit])
  have hl0 : View.ld x0 r0_1 = x0 := by funext i; exact congrArg x0 (hr i)
  have hl1 : View.ld x1 r0_0 = x1 := by
    funext i; refine congrArg x1 ?_; funext a; exact Fin.ext (by fin_cases a <;> simp [r0_0, Rect.emb, Rect.unit])
  unfold out0_2
  rw [hl0, hl1]
  funext i
  have := View.canon_cons_emb (Val := Elt Ideal) (e := .bf16) r0_1 (k0_pay1 (F := Ideal) x1 x0) [] i
  rw [hr] at this
  exact this

/-- What the region leaves in its array: the widened weight of the two arrays. -/
theorem arr_final (c : Dev nD) :
    (dats m 0 c).arrAt 2 cfg0.N = k0_pay1 (m ((c : Thread nD τ).loc main_arg3)) (m ((c : Thread nD τ).loc main_arg2)) := by
  refine Pipeline.Dat.arrAt_eq_of_after_last (dats m 0 c) 2 t0_0 (by decide +kernel)
    (k0_pay1 (m ((c : Thread nD τ).loc main_arg3)) (m ((c : Thread nD τ).loc main_arg2))) (fun j => ?_) (Memref.isWhole_whole _)
  rw [after0_2, out_eq, blk_codes, blk_scales]
  rfl

/-! ## The results -/

/-- The buffers' contents when the region is left. -/
def left (c : Dev nD) : Valuation τ sig (Elt Ideal) :=
  Pipeline.withArrays spec0 c (V0 m c) fun w => (dats m 0 c).arrAt w cfg0.N

/-- The region leaves the rows, -/
theorem left_arg0 (c : Dev nD) : left m c (Proc.devRef .tc main_arg0) = m ((c : Thread nD τ).loc main_arg0) :=
  Pipeline.withArrays_of_ne _ c (V0 m c) _ main_arg0 (by exact (by decide : ∀ w, Pipeline.arrRef spec0 w ≠ main_arg0))

/-- the targets -/
theorem left_arg1 (c : Dev nD) : left m c (Proc.devRef .tc main_arg1) = m ((c : Thread nD τ).loc main_arg1) :=
  Pipeline.withArrays_of_ne _ c (V0 m c) _ main_arg1 (by exact (by decide : ∀ w, Pipeline.arrRef spec0 w ≠ main_arg1))

/-- and the widened weight. -/
theorem left_v0 (c : Dev nD) : left m c (Proc.devRef .tc main_v0)
    = k0_pay1 (F := Ideal) (m ((c : Thread nD τ).loc main_arg3)) (m ((c : Thread nD τ).loc main_arg2)) :=
  (Pipeline.withArrays_arr spec0 launch0.win.arr_inj c (V0 m c) (fun w => (dats m 0 c).arrAt w cfg0.N) 2).trans (arr_final m c)

/-- The logits of the arguments on a device. -/
def X (c : Dev nD) : Fin 256 → Fin 151936 → EReal :=
  Spec.logit (fun r k => m ((c : Thread nD τ).loc main_arg0) (ix2 r k)) (fun k j => m ((c : Thread nD τ).loc main_arg2) (ix2 k j))
    (fun b j => m ((c : Thread nD τ).loc main_arg3) (ix2 b j))

/-- A row's target on a device. -/
def target (c : Dev nD) (r : Fin 256) : BitVec 32 :=
  m ((c : Thread nD τ).loc main_arg1) (ix2 ⟨r.val / 128, by omega⟩ ⟨r.val % 128, by omega⟩)

/-- The host operations' logits are those. -/
theorem logit_left (c : Dev nD) : logit (rows (left m c)) (weight (left m c)) = X m c := by
  funext r j
  unfold logit X Spec.logit rows weight
  rw [left_arg0, left_v0]
  exact Finset.sum_congr rfl fun k _ => congrArg (HMul.hMul (α := EReal) (β := EReal) (γ := EReal) _) (widen_apply _ _ k j)

/-- Two lines of host operations, one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The tail's contents, one stretch after the other. -/
theorem tail_eq (c : Dev nD) (b : Ref sig .tc) :
    Pipeline.afterTail₀ cfgs (dats m) 0 (V0 m) [hostOps1, hostOps1_1, hostOps1_2] c b
      = StableHlo.after hostOps1_2 (StableHlo.after hostOps1_1 (StableHlo.after hostOps1 (left m c))) (Proc.devRef .tc b) := by
  unfold Pipeline.afterTail₀
  rw [show ([hostOps1, hostOps1_1, hostOps1_2] : List (List (HloOp τ sig (Elt Ideal)))).flatten = hostOps1 ++ (hostOps1_1 ++ hostOps1_2) from rfl,
    after_append, after_append]
  rfl

/-- The second result. -/
theorem lse_final (c : Dev nD) (r : Fin 256) :
    Pipeline.afterTail₀ cfgs (dats m) 0 (V0 m) [hostOps1, hostOps1_1, hostOps1_2] c main_v22 (ix2 r 0) = Spec.lseOf (Online.lse (X m c r)) := by
  rw [tail_eq, ops3_lse, ops2_lse, ops1_lse, logit_left]

/-- The first result, when the row's target is a column. -/
theorem lp_final (c : Dev nD) (r : Fin 256) (h : (target m c r).toNat < 151936) :
    Pipeline.afterTail₀ cfgs (dats m) 0 (V0 m) [hostOps1, hostOps1_1, hostOps1_2] c main_v19 (ix2 r 0)
      = Spec.lpOf (X m c r ⟨(target m c r).toNat, h⟩) (Online.lse (X m c r)) := by
  have ht : StableHlo.after (hostOps1 (F := Ideal)) (left m c) (Proc.devRef .tc main_v13) (ix2 r 0) = target m c r := by
    rw [ops1_target, left_arg1]; rfl
  rw [tail_eq, ops3_lp, ops2_lse, ops1_lse, ops2_target _ r (lt_of_eq_of_lt (congrArg BitVec.toNat ht) h), ops1_logits, logit_left]
  simp only [ht]

/-- The run: the two results, and the arguments unchanged. -/
theorem run : θ_run defs (onTc (τ := τ) (main (F := Ideal))) ⟨m, fun _ => 0, ρ⟩ (fun r => ∀ c : Dev nD,
      ((∀ x, (h : (target m c x).toNat < 151936) → r.2.mem ((c.tc : Thread nD τ).loc main_v19) (ix2 x 0) = Spec.lpOf (X m c x ⟨(target m c x).toNat, h⟩) (Online.lse (X m c x)))
      ∧ ∀ x : Fin 256, r.2.mem ((c.tc : Thread nD τ).loc main_v22) (ix2 x 0) = Spec.lseOf (Online.lse (X m c x)))) :=
  (θ_run defs _ _).mono (fun r h c => by
    have h1 := (h c).2 main_v19 (Pipeline.mem_restRefs_of main_v19 (by decide) (by decide))
    have h2 := (h c).2 main_v22 (Pipeline.mem_restRefs_of main_v22 (by decide) (by decide))
    exact ⟨fun x hx => (congrFun h1 (ix2 x 0)).trans (lp_final m c x hx), fun x => (congrFun h2 (ix2 x 0)).trans (lse_final m c x)⟩)
    (run_main m ρ)

end Cert.ReferenceIdeal.Ref

end
-- ==== Proof.Same.lean ====
/- The kernel and the reference compute the same results over the extended reals. -/
module

public import proofs.«01_k».proof.Defs
public import proofs.«01_k».proof.Proof.Gen.Pre_inputs_ok
public import proofs.«01_k».proof.Proof.Head.Value
public import proofs.«01_k».proof.Proof.Ref.Value
public import Idealize.ShloMosaic.Lib.ReduceAll
public import Idealize.ShloMosaic.Lib.Claim

@[expose] public section

set_option maxRecDepth 16384

noncomputable section

namespace Cert.Same

open Idealize.ShloMosaic Idealize.ShloMosaic.TcCoe Idealize.SL.Sem Cert.KernelIdeal.Head

/-! ## What the precondition says -/

/-- Both parts of a conjunction of single bits that is one are one. -/
theorem and_one (a b : BitVec 1) (h : IntOp.andi a b = 1#1) : a = 1#1 ∧ b = 1#1 := by
  revert a b; decide

/-- A word compared at least zero is. -/
theorem sge_zero (a : BitVec 32) (h : IntOp.cmpi .sge a 0#32 = 1#1) : 0 ≤ a.toInt := by
  by_contra hc
  have : IntOp.cmpi .sge a 0#32 = 0#1 := by
    simp [IntOp.cmpi, BitVec.sle, hc]
  rw [this] at h; exact absurd h (by decide)

/-- A word compared less than the number of columns is. -/
theorem slt_vocab (a : BitVec 32) (h : IntOp.cmpi .slt a 151936#32 = 1#1) : a.toInt < 151936 := by
  by_contra hc
  have : IntOp.cmpi .slt a 151936#32 = 0#1 := by
    simp [IntOp.cmpi, BitVec.slt, hc]
  rw [this] at h; exact absurd h (by decide)

/-- A byte compared at least one is. -/
theorem uge_one (a : BitVec 8) (h : IntOp.cmpi .uge a 1#8 = 1#1) : 1 ≤ a.toNat := by
  revert a; decide +kernel

/-- A byte compared at most 254 is. -/
theorem ule_max (a : BitVec 8) (h : IntOp.cmpi .ule a 254#8 = 1#1) : a.toNat ≤ 254 := by
  revert a; decide +kernel

/-- The precondition on one device's arguments: every target is a column and every scale byte names the exponent of a normal float. -/
theorem of_fn (a0 : FVec Ideal Cert.Pre_inputs_ok.S256x2560 .bf16) (a1 : IVec Cert.Pre_inputs_ok.S2x128 32)
    (a2 : FVec Ideal Cert.Pre_inputs_ok.S2560x151936 .fp8e4m3) (a3 : IVec Cert.Pre_inputs_ok.S80x151936 8)
    (h : Cert.Pre_inputs_ok.fn (F := Ideal) a0 a1 a2 a3 = fun _ => 1#1) :
    (∀ i, (a1 i).toNat < 151936) ∧ ∀ i, 1 ≤ (a3 i).toNat ∧ (a3 i).toNat ≤ 254 := by
  have h0 := congrFun h default
  obtain ⟨ht, hs⟩ := and_one _ _ h0
  haveI : Subsingleton Cert.Pre_inputs_ok.S_.Idx := ⟨fun i j => funext fun a => a.elim0⟩
  constructor
  · intro i
    obtain ⟨hl, hu⟩ := and_one _ _ (Host.reduce_andi_all _ _ _ _ _ ht i)
    have hl := sge_zero _ hl
    have hu := slt_vocab _ hu
    have := BitVec.toInt_eq_toNat_cond (a1 i)
    have := (a1 i).isLt
    split at * <;> omega
  · intro i
    obtain ⟨hl, hu⟩ := and_one _ _ (Host.reduce_andi_all _ _ _ _ _ hs i)
    exact ⟨uge_one _ hl, ule_max _ hu⟩

variable (m : (ℓ : Loc Cert.KernelIdeal.nD Cert.KernelIdeal.τ Cert.KernelIdeal.sig) → Buf (Elt Ideal) ℓ)

/-- Under the precondition every target is a column. -/
theorem targets_ok (h : Pre_KernelIdeal_inputs_ok m) (c : Dev Cert.KernelIdeal.nD) : TargetsOk m c :=
  fun _ => (of_fn _ _ _ _ (h c)).1 _

/-- Under the precondition every scale byte names the exponent of a normal float. -/
theorem scales_ok (h : Pre_KernelIdeal_inputs_ok m) (c : Dev Cert.KernelIdeal.nD) : ScalesOk m c :=
  fun _ _ => (of_fn _ _ _ _ (h c)).2 _

/-! ## The results -/

/-- The first result on a device. -/
def lpVec (ht : ∀ c, TargetsOk m c) (c : Dev Cert.KernelIdeal.nD) : Vec Ideal Cert.KernelIdeal.S256x1 .f32 := fun i =>
  Spec.lpOf (X m c (i 0) ⟨(target m c (i 0)).toNat, ht c (i 0)⟩) (Online.lse (X m c (i 0)))

/-- The second result on a device. -/
def lseVec (c : Dev Cert.KernelIdeal.nD) : Vec Ideal Cert.KernelIdeal.S256x1 .f32 := fun i => Spec.lseOf (Online.lse (X m c (i 0)))

/-- An index of a column is its row. -/
theorem idx_col (i : Cert.KernelIdeal.S256x1.Idx) : i = ix2 (i 0) 0 := by
  funext a
  match a with
  | ⟨0, _⟩ => rfl
  | ⟨1, _⟩ => exact Fin.ext (by have : (i 1).val < 1 := (i 1).isLt; show (i 1).val = 0; omega)

/-- A column that holds the first result row by row is it. -/
theorem eq_lp (ht : ∀ c, TargetsOk m c) (c : Dev Cert.KernelIdeal.nD) (Z : Vec Ideal Cert.KernelIdeal.S256x1 .f32) (h : Lp m c Z) : Z = lpVec m ht c := by
  funext i
  exact (congrArg Z (idx_col i)).trans (h (i 0) (ht c (i 0)))

/-- A column that holds the second result row by row is it. -/
theorem eq_lse (c : Dev Cert.KernelIdeal.nD) (Z : Vec Ideal Cert.KernelIdeal.S256x1 .f32) (h : Lse m c Z) : Z = lseVec m c := by
  funext i
  exact (congrArg Z (idx_col i)).trans (h (i 0))

/-- On arguments within the precondition the kernel and the reference end with the same results, their arguments unchanged. -/
theorem algebraic : algebraic_KernelIdeal_ReferenceIdeal_pre_inputs_ok := by
  intro m g m' g' hpre hargs
  have ht := targets_ok m hpre
  have hs := scales_ok m hpre
  refine ⟨lpVec m ht, lseVec m, ?_, ?_⟩
  · refine (θ_run Cert.KernelIdeal.defs _ _).mono (fun r h c => ?_)
      (θ_run_and (outputs m g (tracks m hs ht)) (Cert.KernelIdeal.Head.frame m g))
    obtain ⟨⟨Z, hZ, e⟩, Y, hY, e'⟩ := h.1 c
    exact ⟨e.trans (eq_lp m ht c Z hZ), e'.trans (eq_lse m c Y hY), h.2.1 c⟩
  · refine (θ_run Cert.ReferenceIdeal.defs _ _).mono (fun r h c => ?_)
      (θ_run_and (Cert.ReferenceIdeal.Ref.run m' g') (Cert.ReferenceIdeal.Gen.frame m' g'))
    obtain ⟨h0, h1, h2, h3⟩ := hargs c
    have eX : Cert.ReferenceIdeal.Ref.X m' c = X m c := by
      unfold Cert.ReferenceIdeal.Ref.X X; rw [h0, h2, h3]
    have eT : Cert.ReferenceIdeal.Ref.target m' c = target m c := by
      unfold Cert.ReferenceIdeal.Ref.target target; rw [h1]
    have hl := (h.1 c).1
    have hl' := (h.1 c).2
    rw [eX, eT] at hl
    rw [eX] at hl'
    exact ⟨eq_lp m ht c _ hl, eq_lse m c _ hl', h.2.1 c⟩

end Cert.Same

end
-- ==== Proof.Down.Conds.lean ====
/- The down kernel: when the branch of its body is taken, and the buffers the body works on. -/
module

public import proofs.«01_k».proof.Proof.Gen.DownIdeal.Frame
public import proofs.«01_k».proof.Proof.Gen.DownIdeal.Skeleton

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` (the residual sum and the quantisation, after the last block), from the grid coordinates. -/
abbrev cond (i : grid0.Coords) : Prop := k0_cond1 i = 1#1
/-- It holds at the last point only — by arithmetic of the point. -/
theorem hcond : ∀ t : Fin cfg0.N, cond (grid0.coords t) ↔ t.val % 5 = 4 :=
  (fun t => by
    have ht : t.val < 5 := Nat.lt_of_lt_of_eq t.isLt N_0
    have e0 : (grid0.coords t 0).val = t.val / 1 % 5 := Pipeline.Grid.coords_val t 0 (by decide) rfl
    simp only [cond, k0_cond1, e0]
    word_cmp
   : ∀ t : Fin grid0.N, cond (grid0.coords t) ↔ t.val % 5 = 4)

/-- Each window's current staging memref at point `t` and its wholeness. -/
abbrev ms0_0 (t : Fin cfg0.N) : Memref sig .tc .vmem S256x2560 .bf16 := win0_0.stage (cfg0.slots t 0)
abbrev ms0_1 (t : Fin cfg0.N) : Memref sig .tc .vmem S256x6912 .bf16 := win0_1.stage (cfg0.slots t 1)
abbrev ms0_2 (t : Fin cfg0.N) : Memref sig .tc .vmem S6912x512 .fp8e4m3 := win0_2.stage (cfg0.slots t 2)
abbrev ms0_3 (t : Fin cfg0.N) : Memref sig .tc .vmem S216x512 .i8 := win0_3.stage (cfg0.slots t 3)
abbrev ms0_4 (t : Fin cfg0.N) : Memref sig .tc .vmem S1x2560 .f32 := win0_4.stage (cfg0.slots t 4)
abbrev ms0_5 (t : Fin cfg0.N) : Memref sig .tc .vmem S256x2560 .bf16 := win0_5.stage (cfg0.slots t 5)
abbrev ms0_6 (t : Fin cfg0.N) : Memref sig .tc .vmem S256x2560 .fp8e4m3 := win0_6.stage (cfg0.slots t 6)
abbrev ms0_7 (t : Fin cfg0.N) : Memref sig .tc .vmem S256x80 .f32 := win0_7.stage (cfg0.slots t 7)
abbrev ms0_8 (t : Fin cfg0.N) : Memref sig .tc .vmem S256x2560 .bf16 := win0_8.stage (cfg0.slots t 8)
/-- The scratch operands: whole scoped buffers of the kernel's own, passed beside the windows. -/
abbrev scM0_0 : Memref sig .tc .vmem S256x2560 .f32 := Memref.whole cc0_scratch0
abbrev scM0_1 : Memref sig .tc .vmem S216x512 .i32 := Memref.whole cc0_scratch1

/-- What the pipeline keeps beside its windows, as the two scratch operands owned at some contents and the
    random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.DownIdeal.Down

end
-- ==== Proof.Down.Block.lean ====
/- The down kernel's body run at a point that is not the last. -/
module

public import proofs.«01_k».proof.Proof.Down.Conds

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the product scratch at a point that is not the last, as pieces over what it held; with the proof
    that, run on whole buffers, the body ends with exactly those pieces written and every window's buffer as it was. -/
noncomputable def runBlock (c : Dev nD) (i : grid0.Coords) (arg1 : Memref sig .tc .vmem S256x2560 .bf16) (harg1 : arg1.IsWhole) (arg2 : Memref sig .tc .vmem S256x6912 .bf16) (harg2 : arg2.IsWhole) (arg3 : Memref sig .tc .vmem S6912x512 .fp8e4m3) (harg3 : arg3.IsWhole) (arg4 : Memref sig .tc .vmem S216x512 .i8) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S256x2560 .fp8e4m3) (harg7 : arg7.IsWhole) (arg8 : Memref sig .tc .vmem S256x80 .f32) (harg8 : arg8.IsWhole) (arg9 : Memref sig .tc .vmem S256x2560 .bf16) (harg9 : arg9.IsWhole) (arg10 : Memref sig .tc .vmem S256x2560 .f32) (harg10 : arg10.IsWhole) (arg11 : Memref sig .tc .vmem S216x512 .i32) (harg11 : arg11.IsWhole) (hc : ¬cond i)
    (x0 : Vec F S256x2560 .bf16) (x1 : Vec F S256x6912 .bf16) (x2 : Vec F S6912x512 .fp8e4m3) (x3 : Vec F S216x512 .i8) (x4 : Vec F S1x2560 .f32) (s : Vec F S256x2560 .f32) :
    { L : List (View.Piece (Elt F) S256x2560 .f32) //
      ∀ (y5 : Vec F S256x2560 .bf16) (y6 : Vec F S256x2560 .fp8e4m3) (y7 : Vec F S256x80 .f32) (y8 : Vec F S256x2560 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7 ∗ owns (c : Thread nD τ) arg9 fullShare y8 ∗ owns (c : Thread nD τ) arg10 fullShare s ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7 ∗ owns (c : Thread nD τ) arg9 fullShare y8 ∗ (arg10.view.loc (c : Thread nD τ) ↦[arg10.view.set]{fullShare} arg10.view.writes (Elt F) (harg10.unread s) L) ∗ (∃ d, owns (c : Thread nD τ) arg11 fullShare d)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11) K } := by
  refine ⟨?_, fun y5 y6 y7 y8 E K => ?run⟩
  case run =>
    simp only [cc0_down_eq_skeleton]; unfold cc0_down_skel
    simp only [k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, ⟨%dt, %ft, -, HT⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS]; · iexact HS
    iexists _; iexists _; isplitr
    swap; · iexact HT
    ipureintro; rfl

end Cert.DownIdeal.Down

end
-- ==== Proof.Down.Step.lean ====
/- One block of the down kernel as plain functions of its loads. -/
module

public import proofs.«01_k».proof.Proof.Gen.DownIdeal.Frame
public import proofs.«01_k».proof.Proof.Gen.DownIdeal.Skeleton
public import Idealize.ShloMosaic.Lib.VecWindow

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One block of columns: the activations' rows times the widened codes -/

/-- Rows `32 b … 32 b + 31` are inside the block of codes. -/
theorem slices_rows (b : ℕ) (hb : b < 216) : S6912x512.Slices ![32 * b, 0] S32x512 :=
  ⟨rfl, fun a => by
    fin_cases a
    · show 32 * b + 32 ≤ 6912; omega
    · show 0 + 512 ≤ 512; omega⟩

/-- Each half of a block of 32 rows is inside it. -/
theorem slices_half (h : ℕ) (hh : h < 2) : S32x512.Slices ![16 * h, 0] S16x512 :=
  ⟨rfl, fun a => by
    fin_cases a
    · show 16 * h + 16 ≤ 32; omega
    · show 0 + 512 ≤ 512; omega⟩

/-- The scale words of one block of rows, one row of words over eight, read as sixteen rows of half-width floats. -/
def scaleRows (s : Vec F S1x512 .i32) : FVec F S16x512 .bf16 :=
  bitcastToFloat .bf16 (bitcast S16x512 16 (broadcastTo S8x512 (shapeCast S1x512 s shapeCasts_S1x512_S1x512)
    broadcasts_S1x512_S8x512) bitcasts_S8x512_w32_S16x512_w16)

/-- Sixteen rows of the widened codes: half `k % 2` of block `k / 2`, each code times its block's scale. -/
def part (w : Vec F S6912x512 .fp8e4m3) (sc : Fin 216 → Vec F S1x512 .i32) (k : Fin 432) : FVec F S16x512 .bf16 :=
  mulf (extractStridedSlice S16x512 ![16 * (k.val % 2), 0]
      (extf .bf16 (extractStridedSlice S32x512 ![32 * (k.val / 2), 0] w (slices_rows _ (by omega))) bitsLt_fp8e4m3_bf16)
      (slices_half _ (by omega)))
    (scaleRows (sc ⟨k.val / 2, by omega⟩))

/-- The shapes of the 432 parts add up to the block. -/
theorem concat_parts (w : Vec F S6912x512 .fp8e4m3) (sc : Fin 216 → Vec F S1x512 .i32) :
    Shape.Concatenates ((List.ofFn fun k => (⟨S16x512, part w sc k⟩ : (s : Shape) × (s.Idx → F .bf16))).map (·.1)) S6912x512 0 := by
  rw [List.map_ofFn]
  exact (by decide +kernel : Shape.Concatenates (List.ofFn fun _ : Fin 432 => S16x512) S6912x512 0)

/-- The widened codes of one block of columns. -/
def widened (w : Vec F S6912x512 .fp8e4m3) (sc : Fin 216 → Vec F S1x512 .i32) : FVec F S6912x512 .bf16 :=
  concatenate S6912x512 0 (List.ofFn fun k => ⟨S16x512, part w sc k⟩) (concat_parts w sc)

/-- The product of the activations' rows and one block of columns. -/
def prod (a : Vec F S256x6912 .bf16) (w : Vec F S6912x512 .fp8e4m3) (sc : Fin 216 → Vec F S1x512 .i32) : FVec F S256x512 .f32 :=
  k0_pay8 a (widened w sc)

/-- Row `b` of the scale words is inside them. -/
theorem inb_words (b : Fin 216) : ∀ a, (![b.val, 0] : Fin 2 → ℕ) a + S1x512.size a ≤ S216x512.size a := by
  intro a; fin_cases a
  · show b.val + 1 ≤ 216; omega
  · show 0 + 512 ≤ 512; omega

/-- Row `b` of the scale words of the scale block. -/
def words (x3 : Vec F S216x512 .i8) (b : Fin 216) : Vec F S1x512 .i32 :=
  VecWindow.window (k0_pay281 x3) ![b.val, 0] S1x512.size (inb_words b)

/-- The block of columns the kernel computes at a point, from the contents of its operands. -/
def cols (x1 : Vec F S256x6912 .bf16) (x2 : Vec F S6912x512 .fp8e4m3) (x3 : Vec F S216x512 .i8) : FVec F S256x512 .f32 :=
  prod x1 x2 (words x3)

/-- The product scratch after a point: its block of columns put in place. -/
def blockStep (i : grid0.Coords) (x1 : Vec F S256x6912 .bf16) (x2 : Vec F S6912x512 .fp8e4m3) (x3 : Vec F S216x512 .i8)
    (s : Vec F S256x2560 .f32) : Vec F S256x2560 .f32 :=
  VecWindow.put (s := S256x2560) s (k0_off1 i) S256x512.size (cols x1 x2 x3)

/-- The hidden rows: the rows and the product added, rounded to half width. -/
def hid (x0 : Vec F S256x2560 .bf16) (s : Vec F S256x2560 .f32) : Vec F S256x2560 .bf16 :=
  truncf .bf16 (addf (extf .f32 x0 bitsLt_bf16_f32 : FVec F S256x2560 .f32) s) bitsLt_bf16_f32

/-! ## The block's columns as the body's loads spell them -/

/-- The columns a point computes, its operands read through their views. -/
def colsRaw (arg2 : Memref sig .tc .vmem S256x6912 .bf16) (harg2 : arg2.IsWhole) (arg3 : Memref sig .tc .vmem S6912x512 .fp8e4m3)
    (harg3 : arg3.IsWhole) (arg4 : Memref sig .tc .vmem S216x512 .i8) (harg4 : arg4.IsWhole) (arg11 : Memref sig .tc .vmem S216x512 .i32)
    (x1 : Vec F S256x6912 .bf16) (x2 : Vec F S6912x512 .fp8e4m3) (x3 : Vec F S216x512 .i8) : FVec F S256x512 .f32 :=
  prod (View.readAt (Elt F) arg2.view (Rect.unit (s := S256x6912) ![0, 0] S256x6912.size inb_S256x6912_S256x6912_0_0).toLoadRect (harg2.unread x1))
    (View.readAt (Elt F) arg3.view (Rect.unit (s := S6912x512) ![0, 0] S6912x512.size inb_S6912x512_S6912x512_0_0).toLoadRect (harg3.unread x2))
    fun b => arg11.view.readCov
      [⟨Rect.unit (s := S216x512) ![0, 0] S216x512.size inb_S216x512_S216x512_0_0,
        k0_pay281 (View.readAt (Elt F) arg4.view (Rect.unit (s := S216x512) ![0, 0] S216x512.size inb_S216x512_S216x512_0_0).toLoadRect (harg4.unread x3))⟩]
      (Rect.unit (s := S216x512) ![b.val, 0] S1x512.size (inb_words b)).toLoadRect

/-- They are the columns of the operands' contents. -/
theorem colsRaw_eq (arg2 : Memref sig .tc .vmem S256x6912 .bf16) (harg2 : arg2.IsWhole) (arg3 : Memref sig .tc .vmem S6912x512 .fp8e4m3)
    (harg3 : arg3.IsWhole) (arg4 : Memref sig .tc .vmem S216x512 .i8) (harg4 : arg4.IsWhole) (arg11 : Memref sig .tc .vmem S216x512 .i32)
    (x1 : Vec F S256x6912 .bf16) (x2 : Vec F S6912x512 .fp8e4m3) (x3 : Vec F S216x512 .i8) :
    colsRaw arg2 harg2 arg3 harg3 arg4 harg4 arg11 x1 x2 x3 = cols x1 x2 x3 := by
  have h1 : View.readAt (Elt F) arg2.view (Rect.unit (s := S256x6912) ![0, 0] S256x6912.size inb_S256x6912_S256x6912_0_0).toLoadRect (harg2.unread x1) = x1 :=
    (View.readAt_full arg2.view _ _).trans (harg2.read_unread x1)
  have h2 : View.readAt (Elt F) arg3.view (Rect.unit (s := S6912x512) ![0, 0] S6912x512.size inb_S6912x512_S6912x512_0_0).toLoadRect (harg3.unread x2) = x2 :=
    (View.readAt_full arg3.view _ _).trans (harg3.read_unread x2)
  have h3 : View.readAt (Elt F) arg4.view (Rect.unit (s := S216x512) ![0, 0] S216x512.size inb_S216x512_S216x512_0_0).toLoadRect (harg4.unread x3) = x3 :=
    (View.readAt_full arg4.view _ _).trans (harg4.read_unread x3)
  unfold colsRaw cols
  rw [h1, h2, h3]
  congr 1
  funext b
  unfold View.readCov
  rw [View.readAt_unit arg11.view _ _ rfl (inb_words b), View.read_writes_full]
  rfl

end Cert.DownIdeal.Down

end
-- ==== Proof.Down.Trip.lean ====
/- One trip of the down kernel's last part: 32 rows of the hidden rows stored, and their quantisation. -/
module

public import proofs.«01_k».proof.Proof.Down.Conds
public import proofs.«01_k».proof.Proof.Down.Step

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A trip's rows are inside the array. -/
theorem inb_trip (k : Fin k0_t1_loop.trips) : ∀ a, (k0_off2 k : Fin 2 → ℕ) a + S32x2560.size a ≤ S256x2560.size a :=
  (by decide +kernel : ∀ k : Fin k0_t1_loop.trips, ∀ a, (k0_off2 k : Fin 2 → ℕ) a + S32x2560.size a ≤ S256x2560.size a) k

/-- The hidden rows' buffer after trip `k`: rows `32 k … 32 k + 31` put in place. -/
def tripRows (k : Fin k0_t1_loop.trips) (x0 : Vec F S256x2560 .bf16) (s : Vec F S256x2560 .f32) (y : Vec F S256x2560 .bf16) : Vec F S256x2560 .bf16 :=
  VecWindow.put (s := S256x2560) y (k0_off2 k) S32x2560.size
    (k0_pay10 (VecWindow.window x0 (k0_off2 k) S32x2560.size (inb_trip k)) (VecWindow.window s (k0_off2 k) S32x2560.size (inb_trip k)))

set_option maxHeartbeats 4000000 in
/-- One trip, run on whole buffers: the rows, the product and the factors stay, the hidden rows' buffer gains the trip's
    rows, and the quantised rows' buffers end at some contents. -/
theorem trip (c : Dev nD) (i : grid0.Coords) (arg1 : Memref sig .tc .vmem S256x2560 .bf16) (harg1 : arg1.IsWhole) (arg2 : Memref sig .tc .vmem S256x6912 .bf16) (harg2 : arg2.IsWhole) (arg3 : Memref sig .tc .vmem S6912x512 .fp8e4m3) (harg3 : arg3.IsWhole) (arg4 : Memref sig .tc .vmem S216x512 .i8) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S256x2560 .fp8e4m3) (harg7 : arg7.IsWhole) (arg8 : Memref sig .tc .vmem S256x80 .f32) (harg8 : arg8.IsWhole) (arg9 : Memref sig .tc .vmem S256x2560 .bf16) (harg9 : arg9.IsWhole) (arg10 : Memref sig .tc .vmem S256x2560 .f32) (harg10 : arg10.IsWhole) (arg11 : Memref sig .tc .vmem S216x512 .i32) (harg11 : arg11.IsWhole) (hc : k0_cond1 i = 1#1) (k : Fin k0_t1_loop.trips) (acc : Unit)
    (x0 : Vec F S256x2560 .bf16) (x4 : Vec F S1x2560 .f32) (s : Vec F S256x2560 .f32) (y : Vec F S256x2560 .bf16) (E : Set ℕ) :
    (iprop(owns (c : Thread nD τ) arg1 fullShare x0 ∗ owns (c : Thread nD τ) arg5 fullShare x4 ∗ owns (c : Thread nD τ) arg10 fullShare s ∗ owns (c : Thread nD τ) arg6 fullShare y ∗ (∃ d, owns (c : Thread nD τ) arg7 fullShare d) ∗ (∃ d, owns (c : Thread nD τ) arg8 fullShare d) ∗ (∃ d, owns (c : Thread nD τ) arg9 fullShare d)) : sProp 𝕄)
      ⊢ wp frame (wpE (defs₀ (F := F)) Variants.none c none) E (k0_t1_body i arg1 harg1 arg2 harg2 arg3 harg3 arg4 harg4 arg5 harg5 arg6 harg6 arg7 harg7 arg8 harg8 arg9 harg9 arg10 harg10 arg11 harg11 hc k acc)
          (fun _ => iprop(owns (c : Thread nD τ) arg1 fullShare x0 ∗ owns (c : Thread nD τ) arg5 fullShare x4 ∗ owns (c : Thread nD τ) arg10 fullShare s ∗ owns (c : Thread nD τ) arg6 fullShare (tripRows k x0 s y) ∗ (∃ d, owns (c : Thread nD τ) arg7 fullShare d) ∗ (∃ d, owns (c : Thread nD τ) arg8 fullShare d) ∗ (∃ d, owns (c : Thread nD τ) arg9 fullShare d))) := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton]
  unfold owns
  iintro ⟨⟨%f0, %hf0, H0⟩, ⟨%f4, %hf4, H4⟩, ⟨%fs, %hfs, HS⟩, ⟨%fy, %hfy, HY⟩, ⟨%d7, %f7, -, H7⟩, ⟨%d8, %f8, -, H8⟩, ⟨%d9, %f9, -, H9⟩⟩
  obtain rfl := harg1.eq_unread hf0; obtain rfl := harg5.eq_unread hf4; obtain rfl := harg10.eq_unread hfs; obtain rfl := harg6.eq_unread hfy
  sl_exec
  sl_step
  isplitl [H0]
  · iexists _; isplitr; · ipureintro; exact harg1.read_unread _
    iexact H0
  isplitl [H4]
  · iexists _; isplitr; · ipureintro; exact harg5.read_unread _
    iexact H4
  isplitl [HS]
  · iexists _; isplitr; · ipureintro; exact harg10.read_unread _
    iexact HS
  isplitl [HY]
  · iexists _; isplitr
    swap; · iexact HY
    ipureintro
    refine (View.read_writes_cons_put arg6.view _ _ _ [] rfl).trans ?_
    rw [View.writes_nil, harg6.read_unread]
    unfold tripRows
    congr 2
    · exact (View.readAt_unit arg1.view _ _ rfl (inb_trip k)).trans (by rw [harg1.read_unread])
    · exact (View.readAt_unit arg10.view _ _ rfl (inb_trip k)).trans (by rw [harg10.read_unread])
  isplitl [H7]
  · iexists _; iexists _; isplitr
    swap; · iexact H7
    ipureintro; rfl
  isplitl [H8]
  · iexists _; iexists _; isplitr
    swap; · iexact H8
    ipureintro; rfl
  iexists _; iexists _; isplitr
  swap; · iexact H9
  ipureintro; rfl

end Cert.DownIdeal.Down

end
-- ==== Proof.Down.Rows.lean ====
/- The trips' rows together are the hidden rows. -/
module

public import proofs.«01_k».proof.Proof.Down.Trip

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first `n` trips' rows of a buffer are the hidden rows. -/
def RowsDone (x0 : Vec F S256x2560 .bf16) (s : Vec F S256x2560 .f32) (n : ℕ) (y : Vec F S256x2560 .bf16) : Prop :=
  ∀ i : S256x2560.Idx, (i 0).val < 32 * n → y i = hid x0 s i

/-- Before the first trip nothing is asked. -/
theorem rowsDone_zero (x0 : Vec F S256x2560 .bf16) (s : Vec F S256x2560 .f32) (y : Vec F S256x2560 .bf16) : RowsDone x0 s 0 y :=
  fun i h => absurd h (by omega)

/-- A trip's payload is the window of the hidden rows. -/
theorem pay_window (x0 : Vec F S256x2560 .bf16) (s : Vec F S256x2560 .f32) (k : Fin k0_t1_loop.trips) :
    k0_pay10 (VecWindow.window x0 (k0_off2 k) S32x2560.size (inb_trip k)) (VecWindow.window s (k0_off2 k) S32x2560.size (inb_trip k))
      = VecWindow.window (hid x0 s) (k0_off2 k) S32x2560.size (inb_trip k) := rfl

/-- A trip adds its rows. -/
theorem rowsDone_succ (x0 : Vec F S256x2560 .bf16) (s : Vec F S256x2560 .f32) (k : Fin k0_t1_loop.trips) (y : Vec F S256x2560 .bf16)
    (h : RowsDone x0 s k.val y) : RowsDone x0 s (k.val + 1) (tripRows k x0 s y) := by
  intro i hi
  have e0 : k0_off2 k 0 = 32 * k.val := by rw [k0_off2_eq]; rfl
  have e1 : k0_off2 k 1 = 0 := by rw [k0_off2_eq]; rfl
  unfold tripRows
  rw [pay_window]
  unfold VecWindow.put
  by_cases hk : ∀ a, k0_off2 k a ≤ (i a).val ∧ (i a).val < k0_off2 k a + S32x2560.size a
  · rw [dif_pos hk]
    unfold VecWindow.window
    refine congrArg (hid x0 s) (funext fun a => Fin.ext ?_)
    show k0_off2 k a + 1 * ((i a).val - k0_off2 k a) = (i a).val
    have := (hk a).1
    omega
  · rw [dif_neg hk]
    refine h i ?_
    by_contra hc
    refine hk fun a => ?_
    match a with
    | ⟨0, _⟩ => exact ⟨by show k0_off2 k 0 ≤ (i 0).val; omega, by show (i 0).val < k0_off2 k 0 + 32; omega⟩
    | ⟨1, _⟩ => exact ⟨by show k0_off2 k 1 ≤ (i 1).val; omega, by have : (i 1).val < 2560 := (i 1).isLt; show (i 1).val < k0_off2 k 1 + 2560; omega⟩

/-- After the last trip the buffer holds the hidden rows. -/
theorem rowsDone_all (x0 : Vec F S256x2560 .bf16) (s : Vec F S256x2560 .f32) (y : Vec F S256x2560 .bf16)
    (h : RowsDone x0 s k0_t1_loop.trips y) : y = hid x0 s := by
  have e : k0_t1_loop.trips = 8 := by decide +kernel
  rw [e] at h
  funext i
  exact h i (by have : (i 0).val < 256 := (i 0).isLt; omega)

end Cert.DownIdeal.Down

end
-- ==== Proof.Down.Last.lean ====
/- The down kernel's body run at the last point. -/
module

public import proofs.«01_k».proof.Proof.Down.Rows

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What holds before trip `k`: the rows, the factors and the product as they were, the first `k` trips' rows of the hidden
    rows' buffer done, the quantised rows' buffers at some contents. -/
def LoopInvariant (c : Dev nD) (arg1 : Memref sig .tc .vmem S256x2560 .bf16) (arg5 : Memref sig .tc .vmem S1x2560 .f32) (arg6 : Memref sig .tc .vmem S256x2560 .bf16)
    (arg7 : Memref sig .tc .vmem S256x2560 .fp8e4m3) (arg8 : Memref sig .tc .vmem S256x80 .f32) (arg9 : Memref sig .tc .vmem S256x2560 .bf16) (arg10 : Memref sig .tc .vmem S256x2560 .f32)
    (x0 : Vec F S256x2560 .bf16) (x4 : Vec F S1x2560 .f32) (S : Vec F S256x2560 .f32) (k : ℕ) (_ : Unit) : sProp 𝕄 :=
  iprop(∃ y, ⌜RowsDone x0 S k y⌝ ∗ owns (c : Thread nD τ) arg1 fullShare x0 ∗ owns (c : Thread nD τ) arg5 fullShare x4 ∗ owns (c : Thread nD τ) arg10 fullShare S ∗ owns (c : Thread nD τ) arg6 fullShare y ∗ (∃ d, owns (c : Thread nD τ) arg7 fullShare d) ∗ (∃ d, owns (c : Thread nD τ) arg8 fullShare d) ∗ (∃ d, owns (c : Thread nD τ) arg9 fullShare d))

/-- A trip keeps it. -/
theorem loop_step (c : Dev nD) (i : grid0.Coords) (arg1 : Memref sig .tc .vmem S256x2560 .bf16) (harg1 : arg1.IsWhole) (arg2 : Memref sig .tc .vmem S256x6912 .bf16) (harg2 : arg2.IsWhole) (arg3 : Memref sig .tc .vmem S6912x512 .fp8e4m3) (harg3 : arg3.IsWhole) (arg4 : Memref sig .tc .vmem S216x512 .i8) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S256x2560 .fp8e4m3) (harg7 : arg7.IsWhole) (arg8 : Memref sig .tc .vmem S256x80 .f32) (harg8 : arg8.IsWhole) (arg9 : Memref sig .tc .vmem S256x2560 .bf16) (harg9 : arg9.IsWhole) (arg10 : Memref sig .tc .vmem S256x2560 .f32) (harg10 : arg10.IsWhole) (arg11 : Memref sig .tc .vmem S216x512 .i32) (harg11 : arg11.IsWhole) (hc : k0_cond1 i = 1#1)
    (x0 : Vec F S256x2560 .bf16) (x4 : Vec F S1x2560 .f32) (S : Vec F S256x2560 .f32) (E : Set ℕ) (k : Fin k0_t1_loop.trips) (acc : Unit) :
    LoopInvariant c arg1 arg5 arg6 arg7 arg8 arg9 arg10 x0 x4 S k.val acc
      ⊢ wp frame (wpE (defs₀ (F := F)) Variants.none c none) E (k0_t1_body i arg1 harg1 arg2 harg2 arg3 harg3 arg4 harg4 arg5 harg5 arg6 harg6 arg7 harg7 arg8 harg8 arg9 harg9 arg10 harg10 arg11 harg11 hc k acc)
          (LoopInvariant c arg1 arg5 arg6 arg7 arg8 arg9 arg10 x0 x4 S (k.val + 1)) := by
  unfold LoopInvariant
  iintro ⟨%y, %hy, H⟩
  have hy' := rowsDone_succ x0 S k y hy
  iapply ((trip c i arg1 harg1 arg2 harg2 arg3 harg3 arg4 harg4 arg5 harg5 arg6 harg6 arg7 harg7 arg8 harg8 arg9 harg9 arg10 harg10 arg11 harg11 hc k acc x0 x4 S y E).trans (wp_mono frame (wpE (defs₀ (F := F)) Variants.none c none) E fun a => by
    iintro H
    iexists _; isplitr; · ipureintro; exact hy'
    iexact H))
  iexact H

set_option maxHeartbeats 4000000 in
/-- What the body's stores leave in the product scratch at the last point, as pieces over what it held; with the proof
    that, run on whole buffers, where those pieces leave `S`, the body ends with the hidden rows of `S` in their buffer, every input as it
    was and the quantised rows' buffers at some contents. -/
noncomputable def runLast (c : Dev nD) (i : grid0.Coords) (arg1 : Memref sig .tc .vmem S256x2560 .bf16) (harg1 : arg1.IsWhole) (arg2 : Memref sig .tc .vmem S256x6912 .bf16) (harg2 : arg2.IsWhole) (arg3 : Memref sig .tc .vmem S6912x512 .fp8e4m3) (harg3 : arg3.IsWhole) (arg4 : Memref sig .tc .vmem S216x512 .i8) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S256x2560 .fp8e4m3) (harg7 : arg7.IsWhole) (arg8 : Memref sig .tc .vmem S256x80 .f32) (harg8 : arg8.IsWhole) (arg9 : Memref sig .tc .vmem S256x2560 .bf16) (harg9 : arg9.IsWhole) (arg10 : Memref sig .tc .vmem S256x2560 .f32) (harg10 : arg10.IsWhole) (arg11 : Memref sig .tc .vmem S216x512 .i32) (harg11 : arg11.IsWhole) (hc : cond i)
    (x0 : Vec F S256x2560 .bf16) (x1 : Vec F S256x6912 .bf16) (x2 : Vec F S6912x512 .fp8e4m3) (x3 : Vec F S216x512 .i8) (x4 : Vec F S1x2560 .f32) (s : Vec F S256x2560 .f32) :
    { L : List (View.Piece (Elt F) S256x2560 .f32) //
      ∀ (S : Vec F S256x2560 .f32) (y5 : Vec F S256x2560 .bf16) (y6 : Vec F S256x2560 .fp8e4m3) (y7 : Vec F S256x80 .f32) (y8 : Vec F S256x2560 .bf16) (E : Set ℕ) (K : PUnit → sProp 𝕄),
        iprop(((arg10.view.loc (c : Thread nD τ) ↦[arg10.view.set]{fullShare} arg10.view.writes (Elt F) (harg10.unread s) L) -∗ owns (c : Thread nD τ) arg10 fullShare S) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7 ∗ owns (c : Thread nD τ) arg9 fullShare y8 ∗ owns (c : Thread nD τ) arg10 fullShare s ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (hid x0 S) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare S ∗ (∃ d, owns (c : Thread nD τ) arg11 fullShare d)) -∗ K ⟨⟩))
          ⊢ wp frame (wpE (defs₀ (F := F)) Variants.none c none) E (cc0_down i arg1 harg1 arg2 harg2 arg3 harg3 arg4 harg4 arg5 harg5 arg6 harg6 arg7 harg7 arg8 harg8 arg9 harg9 arg10 harg10 arg11 harg11) K } := by
  refine ⟨?_, fun S y5 y6 y7 y8 E K => ?run⟩
  case run =>
    have hstep := loop_step (F := F) c i arg1 harg1 arg2 harg2 arg3 harg3 arg4 harg4 arg5 harg5 arg6 harg6 arg7 harg7 arg8 harg8 arg9 harg9 arg10 harg10 arg11 harg11 hc x0 x4 S E
    generalize hI : (LoopInvariant (F := F) c arg1 arg5 arg6 arg7 arg8 arg9 arg10 x0 x4 S) = I at hstep
    simp only [cc0_down_eq_skeleton]; unfold cc0_down_skel
    simp only [k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
    unfold owns
    iintro ⟨HC, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, ⟨%dt, %ft, -, HT⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs
    sl_exec (disch := sl_exact hc)
    ihave HS := HC $$ HS
    sl_for I $$ [H0 H4 HS H5 H6 H7 H8]
    · exact hstep
    · subst hI; unfold LoopInvariant owns
      iexists y5; isplitr; · ipureintro; exact rowsDone_zero _ _ _
      isplitl [H0]
      · iexists _; isplitr; · ipureintro; exact harg1.read_unread _
        iexact H0
      isplitl [H4]
      · iexists _; isplitr; · ipureintro; exact harg5.read_unread _
        iexact H4
      isplitl [HS]; · iexact HS
      isplitl [H5]
      · iexists _; isplitr; · ipureintro; exact harg6.read_unread _
        iexact H5
      isplitl [H6]
      · iexists y6; iexists _; isplitr; · ipureintro; exact harg7.read_unread _
        iexact H6
      isplitl [H7]
      · iexists y7; iexists _; isplitr; · ipureintro; exact harg8.read_unread _
        iexact H7
      iexists y8; iexists _; isplitr; · ipureintro; exact harg9.read_unread _
      iexact H8
    iintro %acc
    subst hI
    unfold LoopInvariant owns
    iintro ⟨%y, %hy, H0, H4, HS, H5, H6, H7, H8⟩
    obtain rfl := rowsDone_all x0 S y hy
    sl_exec
    sl_step
    iapply Hk
    isplitl [H0]; · iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexact H4
    isplitl [H5]; · iexact H5
    isplitl [H6]; · iexact H6
    isplitl [H7]; · iexact H7
    isplitl [H8]; · iexact H8
    isplitl [HS]; · iexact HS
    iexists _; iexists _; isplitr
    swap; · iexact HT
    ipureintro; rfl

end Cert.DownIdeal.Down

end
-- ==== Proof.Down.Leaves.lean ====
/- What the down kernel's body leaves in the product scratch, as the block's columns put in place. -/
module

public import proofs.«01_k».proof.Proof.Down.Block
public import proofs.«01_k».proof.Proof.Down.Last

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces written at a point, as the block's columns: one rectangle of them. -/
theorem pieces_block (c : Dev nD) (i : grid0.Coords) (arg1 : Memref sig .tc .vmem S256x2560 .bf16) (harg1 : arg1.IsWhole) (arg2 : Memref sig .tc .vmem S256x6912 .bf16) (harg2 : arg2.IsWhole) (arg3 : Memref sig .tc .vmem S6912x512 .fp8e4m3) (harg3 : arg3.IsWhole) (arg4 : Memref sig .tc .vmem S216x512 .i8) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S256x2560 .fp8e4m3) (harg7 : arg7.IsWhole) (arg8 : Memref sig .tc .vmem S256x80 .f32) (harg8 : arg8.IsWhole) (arg9 : Memref sig .tc .vmem S256x2560 .bf16) (harg9 : arg9.IsWhole) (arg10 : Memref sig .tc .vmem S256x2560 .f32) (harg10 : arg10.IsWhole) (arg11 : Memref sig .tc .vmem S216x512 .i32) (harg11 : arg11.IsWhole) (hc : ¬cond i) (x0 : Vec F S256x2560 .bf16) (x1 : Vec F S256x6912 .bf16) (x2 : Vec F S6912x512 .fp8e4m3) (x3 : Vec F S216x512 .i8) (x4 : Vec F S1x2560 .f32) (s : Vec F S256x2560 .f32) :
    (runBlock c i arg1 harg1 arg2 harg2 arg3 harg3 arg4 harg4 arg5 harg5 arg6 harg6 arg7 harg7 arg8 harg8 arg9 harg9 arg10 harg10 arg11 harg11 hc x0 x1 x2 x3 x4 s).1
      = [⟨Rect.unit (s := S256x2560) (k0_off1 i) S256x512.size (k0_off1_inb i), colsRaw arg2 harg2 arg3 harg3 arg4 harg4 arg11 x1 x2 x3⟩] := rfl

/-- The same at the last point. -/
theorem pieces_last (c : Dev nD) (i : grid0.Coords) (arg1 : Memref sig .tc .vmem S256x2560 .bf16) (harg1 : arg1.IsWhole) (arg2 : Memref sig .tc .vmem S256x6912 .bf16) (harg2 : arg2.IsWhole) (arg3 : Memref sig .tc .vmem S6912x512 .fp8e4m3) (harg3 : arg3.IsWhole) (arg4 : Memref sig .tc .vmem S216x512 .i8) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S256x2560 .fp8e4m3) (harg7 : arg7.IsWhole) (arg8 : Memref sig .tc .vmem S256x80 .f32) (harg8 : arg8.IsWhole) (arg9 : Memref sig .tc .vmem S256x2560 .bf16) (harg9 : arg9.IsWhole) (arg10 : Memref sig .tc .vmem S256x2560 .f32) (harg10 : arg10.IsWhole) (arg11 : Memref sig .tc .vmem S216x512 .i32) (harg11 : arg11.IsWhole) (hc : cond i) (x0 : Vec F S256x2560 .bf16) (x1 : Vec F S256x6912 .bf16) (x2 : Vec F S6912x512 .fp8e4m3) (x3 : Vec F S216x512 .i8) (x4 : Vec F S1x2560 .f32) (s : Vec F S256x2560 .f32) :
    (runLast c i arg1 harg1 arg2 harg2 arg3 harg3 arg4 harg4 arg5 harg5 arg6 harg6 arg7 harg7 arg8 harg8 arg9 harg9 arg10 harg10 arg11 harg11 hc x0 x1 x2 x3 x4 s).1
      = [⟨Rect.unit (s := S256x2560) (k0_off1 i) S256x512.size (k0_off1_inb i), colsRaw arg2 harg2 arg3 harg3 arg4 harg4 arg11 x1 x2 x3⟩] := rfl

/-- The scratch over which those pieces are written holds the block's step. -/
theorem read_block (c : Dev nD) (i : grid0.Coords) (arg1 : Memref sig .tc .vmem S256x2560 .bf16) (harg1 : arg1.IsWhole) (arg2 : Memref sig .tc .vmem S256x6912 .bf16) (harg2 : arg2.IsWhole) (arg3 : Memref sig .tc .vmem S6912x512 .fp8e4m3) (harg3 : arg3.IsWhole) (arg4 : Memref sig .tc .vmem S216x512 .i8) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S256x2560 .fp8e4m3) (harg7 : arg7.IsWhole) (arg8 : Memref sig .tc .vmem S256x80 .f32) (harg8 : arg8.IsWhole) (arg9 : Memref sig .tc .vmem S256x2560 .bf16) (harg9 : arg9.IsWhole) (arg10 : Memref sig .tc .vmem S256x2560 .f32) (harg10 : arg10.IsWhole) (arg11 : Memref sig .tc .vmem S216x512 .i32) (harg11 : arg11.IsWhole) (hc : ¬cond i) (x0 : Vec F S256x2560 .bf16) (x1 : Vec F S256x6912 .bf16) (x2 : Vec F S6912x512 .fp8e4m3) (x3 : Vec F S216x512 .i8) (x4 : Vec F S1x2560 .f32) (s : Vec F S256x2560 .f32) :
    arg10.view.read (Elt F) (arg10.view.writes (Elt F) (harg10.unread s) (runBlock c i arg1 harg1 arg2 harg2 arg3 harg3 arg4 harg4 arg5 harg5 arg6 harg6 arg7 harg7 arg8 harg8 arg9 harg9 arg10 harg10 arg11 harg11 hc x0 x1 x2 x3 x4 s).1) = blockStep i x1 x2 x3 s := by
  rw [pieces_block]
  refine (View.read_writes_cons_put arg10.view _ _ _ [] rfl).trans ?_
  rw [View.writes_nil, harg10.read_unread, colsRaw_eq]; rfl

/-- The same at the last point. -/
theorem read_last (c : Dev nD) (i : grid0.Coords) (arg1 : Memref sig .tc .vmem S256x2560 .bf16) (harg1 : arg1.IsWhole) (arg2 : Memref sig .tc .vmem S256x6912 .bf16) (harg2 : arg2.IsWhole) (arg3 : Memref sig .tc .vmem S6912x512 .fp8e4m3) (harg3 : arg3.IsWhole) (arg4 : Memref sig .tc .vmem S216x512 .i8) (harg4 : arg4.IsWhole) (arg5 : Memref sig .tc .vmem S1x2560 .f32) (harg5 : arg5.IsWhole) (arg6 : Memref sig .tc .vmem S256x2560 .bf16) (harg6 : arg6.IsWhole) (arg7 : Memref sig .tc .vmem S256x2560 .fp8e4m3) (harg7 : arg7.IsWhole) (arg8 : Memref sig .tc .vmem S256x80 .f32) (harg8 : arg8.IsWhole) (arg9 : Memref sig .tc .vmem S256x2560 .bf16) (harg9 : arg9.IsWhole) (arg10 : Memref sig .tc .vmem S256x2560 .f32) (harg10 : arg10.IsWhole) (arg11 : Memref sig .tc .vmem S216x512 .i32) (harg11 : arg11.IsWhole) (hc : cond i) (x0 : Vec F S256x2560 .bf16) (x1 : Vec F S256x6912 .bf16) (x2 : Vec F S6912x512 .fp8e4m3) (x3 : Vec F S216x512 .i8) (x4 : Vec F S1x2560 .f32) (s : Vec F S256x2560 .f32) :
    arg10.view.read (Elt F) (arg10.view.writes (Elt F) (harg10.unread s) (runLast c i arg1 harg1 arg2 harg2 arg3 harg3 arg4 harg4 arg5 harg5 arg6 harg6 arg7 harg7 arg8 harg8 arg9 harg9 arg10 harg10 arg11 harg11 hc x0 x1 x2 x3 x4 s).1) = blockStep i x1 x2 x3 s := by
  rw [pieces_last]
  refine (View.read_writes_cons_put arg10.view _ _ _ [] rfl).trans ?_
  rw [View.writes_nil, harg10.read_unread, colsRaw_eq]; rfl

end Cert.DownIdeal.Down

end
-- ==== Proof.Down.Run.lean ====
/- The down kernel's run: the body's obligation against an invariant of the product scratch, and the whole launch. -/
module

public import proofs.«01_k».proof.Proof.Down.Leaves
public import Idealize.ShloMosaic.Lib.Pipeline.ArrRel

@[expose] public section

set_option maxRecDepth 16384

noncomputable section

namespace Cert.DownIdeal.Down

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant and what it must satisfy -/

/-- The codes' staging buffer at a point: the block fetched there, over whatever the buffer held. -/
def codesAt (c : Dev nD) (t : Fin cfg0.N) (d : Vec F S6912x512 .fp8e4m3) : Vec F S6912x512 .fp8e4m3 :=
  (cfg0.win 2).fill (cfg0.grid.coords t) d (iblk m c 2 t)

/-- The scales' staging buffer at a point: the block fetched there, over whatever the buffer held. -/
def scalesAt (c : Dev nD) (t : Fin cfg0.N) (d : Vec F S216x512 .i8) : Vec F S216x512 .i8 :=
  (cfg0.win 3).fill (cfg0.grid.coords t) d (iblk m c 3 t)

/-- What is asked of an invariant of the product scratch (indexed by the number of blocks done) and of the predicate the hidden
    rows are to satisfy: it holds of any scratch before the first block, every block's step keeps it, and after the last block it
    gives the predicate. -/
structure Tracks (Inv : Dev nD → ℕ → Vec F S256x2560 .f32 → Prop) (O : Dev nD → Vec F S256x2560 .bf16 → Prop) : Prop where
  start : ∀ c s, Inv c 0 s
  step : ∀ c (t : Fin cfg0.N) d2 d3 s, Inv c t.val s →
    Inv c (t.val + 1) (blockStep (grid0.coords t) (iblk m c 1 t) (codesAt m c t d2) (scalesAt m c t d3) s)
  out : ∀ c (t : Fin cfg0.N) s, t.val = 4 → Inv c 5 s → O c (hid (iblk m c 0 t) s)

/-- The invariant that says nothing, with a result of which nothing is said: enough for the frame. -/
theorem Tracks.trivial : Tracks m (fun _ _ _ => True) (fun _ _ => True) :=
  ⟨fun _ _ => True.intro, fun _ _ _ _ _ _ => True.intro, fun _ _ _ _ _ => True.intro⟩

variable (Inv : Dev nD → ℕ → Vec F S256x2560 .f32 → Prop) (O : Dev nD → Vec F S256x2560 .bf16 → Prop)

/-! ## The run's proof data -/

/-- The scratch after `n` blocks: the product at some contents of which the invariant holds, the scale words at any. -/
def Held (c : Dev nD) (n : ℕ) : sProp 𝕄 :=
  iprop(∃ s : Vec F S256x2560 .f32, ⌜Inv c n s⌝ ∗ iprop(owns (c : Thread nD τ) scM0_0 fullShare s ∗ (∃ d, owns (c : Thread nD τ) scM0_1 fullShare d)) ∗ (∃ r, prngReg c r))

/-- The run's proof data: the inputs' staging buffers are left as found, the predicate holds of what the last point leaves in the
    hidden rows' buffer. -/
def rdat (c : Dev nD) : Pipeline.RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => t.val = 4 → O c X
    | ⟨6, _⟩ => True
    | ⟨7, _⟩ => True
    | ⟨8, _⟩ => True
  Φ t := Held Inv c t.val
  q _ := fullShare
  owed _ := 0

theorem A_eq (c : Dev nD) (w : Fin cfg0.W) : (rdat m Inv O c).A w = V m c (Pipeline.arrRef spec0 w) := by
  dsimp only [rdat]

/-! ## What the body may find in the inputs' staging buffers -/

/-- The rows' buffer holds the whole rows at every point. -/
theorem finds_0 (c : Dev nD) (t : Fin cfg0.N) (Y : Vec F S256x2560 .bf16) (h : (rdat m Inv O c).Finds 0 t Y) :
    Y = iblk m c 0 t := by
  obtain ⟨d, hd⟩ := (rdat m Inv O c).finds_in_eq_fetched 0 rfl (fun _ _ _ => rfl) (fun _ _ _ h => h) t Y h
  rw [hd]; unfold Pipeline.RDat.fetched Pipeline.RDat.blockOf iblk; rw [A_eq]; try rfl

/-- The activations' buffer holds all activations at every point. -/
theorem finds_1 (c : Dev nD) (t : Fin cfg0.N) (Y : Vec F S256x6912 .bf16) (h : (rdat m Inv O c).Finds 1 t Y) :
    Y = iblk m c 1 t := by
  obtain ⟨d, hd⟩ := (rdat m Inv O c).finds_in_eq_fetched 1 rfl (fun _ _ _ => rfl) (fun _ _ _ h => h) t Y h
  rw [hd]; unfold Pipeline.RDat.fetched Pipeline.RDat.blockOf iblk; rw [A_eq]; try rfl

/-- The norm factors' buffer holds all factors at every point. -/
theorem finds_4 (c : Dev nD) (t : Fin cfg0.N) (Y : Vec F S1x2560 .f32) (h : (rdat m Inv O c).Finds 4 t Y) :
    Y = iblk m c 4 t := by
  obtain ⟨d, hd⟩ := (rdat m Inv O c).finds_in_eq_fetched 4 rfl (fun _ _ _ => rfl) (fun _ _ _ h => h) t Y h
  rw [hd]; unfold Pipeline.RDat.fetched Pipeline.RDat.blockOf iblk; rw [A_eq]; try rfl

/-- The codes' buffer holds the point's block of them, with anything past the edge. -/
theorem finds_2 (c : Dev nD) (t : Fin cfg0.N) (Y : Vec F S6912x512 .fp8e4m3) (h : (rdat m Inv O c).Finds 2 t Y) :
    ∃ d, Y = codesAt m c t d := by
  obtain ⟨d, hd⟩ := ((rdat m Inv O c).finds_of_fetch (fetch0_2 t) Y).mp h
  refine ⟨d, hd.trans ?_⟩
  unfold Pipeline.RDat.fetched Pipeline.RDat.blockOf codesAt iblk; rw [A_eq]

/-- The scales' buffer holds the point's block of them, with anything past the edge. -/
theorem finds_3 (c : Dev nD) (t : Fin cfg0.N) (Y : Vec F S216x512 .i8) (h : (rdat m Inv O c).Finds 3 t Y) :
    ∃ d, Y = scalesAt m c t d := by
  obtain ⟨d, hd⟩ := ((rdat m Inv O c).finds_of_fetch (fetch0_3 t) Y).mp h
  refine ⟨d, hd.trans ?_⟩
  unfold Pipeline.RDat.fetched Pipeline.RDat.blockOf scalesAt iblk; rw [A_eq]

/-! ## The body's obligation -/

/-- What the body is called with at a point beside the scratch: the core's tally and the nine staging buffers. -/
def Given (c : Dev nD) (t : Fin cfg0.N) (x0 : Vec F S256x2560 .bf16) (x1 : Vec F S256x6912 .bf16) (x2 : Vec F S6912x512 .fp8e4m3) (x3 : Vec F S216x512 .i8) (x4 : Vec F S1x2560 .f32) (y5 : Vec F S256x2560 .bf16) (y6 : Vec F S256x2560 .fp8e4m3) (y7 : Vec F S256x80 .f32) (y8 : Vec F S256x2560 .bf16) : sProp 𝕄 :=
  iprop((rdat m Inv O c).owesAt () t.castSucc ∗ owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare y5 ∗ owns (c : Thread nD τ) (ms0_6 t) fullShare y6 ∗ owns (c : Thread nD τ) (ms0_7 t) fullShare y7 ∗ owns (c : Thread nD τ) (ms0_8 t) fullShare y8)

/-- What it returns: the scratch under the invariant, the inputs' buffers as found, the hidden rows' buffer at contents of
    which, at the last point, their predicate holds, the quantised rows' buffers at any. -/
def Returned (c : Dev nD) (t : Fin cfg0.N) (x0 : Vec F S256x2560 .bf16) (x1 : Vec F S256x6912 .bf16) (x2 : Vec F S6912x512 .fp8e4m3) (x3 : Vec F S216x512 .i8) (x4 : Vec F S1x2560 .f32) : sProp 𝕄 :=
  iprop(Held Inv c (t.val + 1) ∗ (rdat m Inv O c).owesAt () t.castSucc ∗ (∃ X, ⌜X = x0⌝ ∗ owns (c : Thread nD τ) (ms0_0 t) fullShare X) ∗ (∃ X, ⌜X = x1⌝ ∗ owns (c : Thread nD τ) (ms0_1 t) fullShare X) ∗ (∃ X, ⌜X = x2⌝ ∗ owns (c : Thread nD τ) (ms0_2 t) fullShare X) ∗ (∃ X, ⌜X = x3⌝ ∗ owns (c : Thread nD τ) (ms0_3 t) fullShare X) ∗ (∃ X, ⌜X = x4⌝ ∗ owns (c : Thread nD τ) (ms0_4 t) fullShare X) ∗ (∃ X, ⌜t.val = 4 → O c X⌝ ∗ owns (c : Thread nD τ) (ms0_5 t) fullShare X) ∗ (∃ X, ⌜True⌝ ∗ owns (c : Thread nD τ) (ms0_6 t) fullShare X) ∗ (∃ X, ⌜True⌝ ∗ owns (c : Thread nD τ) (ms0_7 t) fullShare X) ∗ (∃ X, ⌜True⌝ ∗ owns (c : Thread nD τ) (ms0_8 t) fullShare X))

variable (c : Dev nD) (t : Fin cfg0.N) (x0 : Vec F S256x2560 .bf16) (x1 : Vec F S256x6912 .bf16) (x2 : Vec F S6912x512 .fp8e4m3) (x3 : Vec F S216x512 .i8) (x4 : Vec F S1x2560 .f32) (y5 : Vec F S256x2560 .bf16) (y6 : Vec F S256x2560 .fp8e4m3) (y7 : Vec F S256x80 .f32) (y8 : Vec F S256x2560 .bf16)

/-- The body's triple at a point that is not the last. -/
theorem body_block (hc : ¬cond (grid0.coords t)) (ht : t.val ≠ 4)
    (hI : ∀ s, Inv c t.val s → Inv c (t.val + 1) (blockStep (grid0.coords t) x1 x2 x3 s)) :
    iprop(Held Inv c t.val ∗ Given m Inv O c t x0 x1 x2 x3 x4 y5 y6 y7 y8)
      ⊢ wp frame (wpE (defs₀ (F := F)) Variants.none c none) Set.univ (bodyAt0 t) (fun _ => Returned m Inv O c t x0 x1 x2 x3 x4) := by
  unfold Given Returned Held bodyAt0
  iintro ⟨⟨%s, %hs, ⟨HS, HT⟩, Hg⟩, Ho, H0, H1, H2, H3, H4, H5, H6, H7, H8⟩
  replace hI := hI s hs
  iapply ((runBlock c (grid0.coords t) _ _ _ _ _ _ _ _ _ _ _ _ _ _ _ _ _ _ _ _ _ _ hc x0 x1 x2 x3 x4 s).2 _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  isplitl [HT]; · iexact HT
  iintro ⟨H0, H1, H2, H3, H4, H5, H6, H7, H8, HS, HT⟩
  isplitl [HS HT Hg]
  · iexists (blockStep (grid0.coords t) x1 x2 x3 s)
    isplitr; · ipureintro; exact hI
    isplitl [HS HT]
    · isplitl [HS]
      · unfold owns; iexists _; isplitr
        swap; · iexact HS
        ipureintro; exact read_block c _ _ _ _ _ _ _ _ _ _ _ _ _ _ _ _ _ _ _ _ _ _ _ hc x0 x1 x2 x3 x4 s
      iexact HT
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists _; isplitr
    swap; · iexact H5
    ipureintro; exact fun h => absurd h ht
  isplitl [H6]
  · iexists _; isplitr
    swap; · iexact H6
    ipureintro; trivial
  isplitl [H7]
  · iexists _; isplitr
    swap; · iexact H7
    ipureintro; trivial
  iexists _; isplitr
  swap; · iexact H8
  ipureintro; trivial

/-- The body's triple at the last point. -/
theorem body_last (hc : cond (grid0.coords t))
    (hI : ∀ s, Inv c t.val s → Inv c (t.val + 1) (blockStep (grid0.coords t) x1 x2 x3 s))
    (hO : ∀ s, Inv c (t.val + 1) s → t.val = 4 → O c (hid x0 s)) :
    iprop(Held Inv c t.val ∗ Given m Inv O c t x0 x1 x2 x3 x4 y5 y6 y7 y8)
      ⊢ wp frame (wpE (defs₀ (F := F)) Variants.none c none) Set.univ (bodyAt0 t) (fun _ => Returned m Inv O c t x0 x1 x2 x3 x4) := by
  unfold Given Returned Held bodyAt0
  iintro ⟨⟨%s, %hs, ⟨HS, HT⟩, Hg⟩, Ho, H0, H1, H2, H3, H4, H5, H6, H7, H8⟩
  replace hI := hI s hs
  replace hO := hO _ hI
  iapply ((runLast c (grid0.coords t) _ _ _ _ _ _ _ _ _ _ _ _ _ _ _ _ _ _ _ _ _ _ hc x0 x1 x2 x3 x4 s).2 (blockStep (grid0.coords t) x1 x2 x3 s) _ _ _ _ Set.univ _)
  isplitr
  · iintro HS
    unfold owns; iexists _; isplitr
    swap; · iexact HS
    ipureintro; exact read_last c _ _ _ _ _ _ _ _ _ _ _ _ _ _ _ _ _ _ _ _ _ _ _ hc x0 x1 x2 x3 x4 s
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  isplitl [HT]; · iexact HT
  iintro ⟨H0, H1, H2, H3, H4, H5, H6, H7, H8, HS, HT⟩
  isplitl [HS HT Hg]
  · iexists (blockStep (grid0.coords t) x1 x2 x3 s)
    isplitr; · ipureintro; exact hI
    isplitl [HS HT]
    · isplitl [HS]; · iexact HS
      iexact HT
    iexact Hg
  isplitl [Ho]; · iexact Ho
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro; rfl
  isplitl [H5]
  · iexists (hid x0 (blockStep (grid0.coords t) x1 x2 x3 s)); isplitr; · ipureintro; exact hO
    iexact H5
  icases H6 with ⟨%d6, H6⟩
  icases H7 with ⟨%d7, H7⟩
  icases H8 with ⟨%d8, H8⟩
  isplitl [H6]
  · iexists _; isplitr
    swap; · iexact H6
    ipureintro; trivial
  isplitl [H7]
  · iexists _; isplitr
    swap; · iexact H7
    ipureintro; trivial
  iexists _; isplitr
  swap; · iexact H8
  ipureintro; trivial

variable {Inv O}

/-- The body's triple at any point. -/
theorem body_any (T : Tracks m Inv O) (d2 : Vec F S6912x512 .fp8e4m3) (d3 : Vec F S216x512 .i8) :
    iprop(Held Inv c t.val ∗ Given m Inv O c t (iblk m c 0 t) (iblk m c 1 t) (codesAt m c t d2) (scalesAt m c t d3) (iblk m c 4 t) y5 y6 y7 y8)
      ⊢ wp frame (wpE (defs₀ (F := F)) Variants.none c none) Set.univ (bodyAt0 t)
          (fun _ => Returned m Inv O c t (iblk m c 0 t) (iblk m c 1 t) (codesAt m c t d2) (scalesAt m c t d3) (iblk m c 4 t)) := by
  have hN : t.val < 5 := lt_of_lt_of_eq t.isLt (show cfg0.N = 5 from N_0)
  have hst := T.step c t d2 d3
  by_cases h : t.val = 4
  · exact body_last m Inv O c t _ _ _ _ _ y5 y6 y7 y8 ((hcond t).mpr (by omega)) hst
      (fun s hs h => T.out c t s h (by rw [h] at hs; exact hs))
  · exact body_block m Inv O c t _ _ _ _ _ y5 y6 y7 y8 (fun hc => by have := (hcond t).mp hc; omega) h hst

/-- The body table's row at a point's slots is the body on that point's operands. -/
theorem defs₀_row : defs₀ (F := F) .tc cfg0.body (cfg0.bodyArgs t (cfg0.slots t)) = bodyAt0 t := by
  unfold defs₀; rw [Defs.onTc_tc]

/-- The body's obligation at every point. -/
theorem body_obligation (T : Tracks m Inv O) :
    (rdat m Inv O c).BodyObligation (defs₀ (F := F)) Variants.none () Set.univ := fun t Y hY => by
  obtain ⟨d2, h2⟩ := finds_2 m Inv O c t (Y 2) (hY 2)
  obtain ⟨d3, h3⟩ := finds_3 m Inv O c t (Y 3) (hY 3)
  have h0 := finds_0 m Inv O c t (Y 0) (hY 0)
  have h1 := finds_1 m Inv O c t (Y 1) (hY 1)
  have h4 := finds_4 m Inv O c t (Y 4) (hY 4)
  rw [bigSep_W0, bigSep_W0, defs₀_row, h0, h1, h2, h3, h4]
  exact triple_restated (body_any m c t (Y 5) (Y 6) (Y 7) (Y 8) T d2 d3) rfl .rfl fun _ => .rfl

/-- What the launch hands the region is the invariant before the first point. -/
theorem hin (T : Tracks m Inv O) : Pipeline.ΦA spec0 c ⊢ (rdat m Inv O c).Φ 0 := by
  rw [show (rdat m Inv O c).Φ 0 = Held Inv c 0 from rfl, PhiA0_eq]
  unfold Held
  iintro ⟨⟨⟨%s, HS⟩, HT⟩, Hg⟩
  iexists s; isplitr; · ipureintro; exact T.start c s
  isplitl [HS HT]
  · isplitl [HS]; · iexact HS
    iexact HT
  iexact Hg

/-- After the last point the invariant gives the scratch back, its contents forgotten. -/
theorem hout : (rdat m Inv O c).Φ (Fin.last cfg0.N) ⊢ Pipeline.ΦA spec0 c := by
  rw [show (rdat m Inv O c).Φ (Fin.last cfg0.N) = Held Inv c cfg0.N from rfl, PhiA0_eq]
  unfold Held
  iintro ⟨%s, -, ⟨HS, HT⟩, Hg⟩
  isplitl [HS HT]
  · isplitl [HS]
    · iexists _; iexact HS
    iexact HT
  iexact Hg

/-! ## The run -/

-- the launch theorem's implicit arguments are found by unifying its conclusion with this one, which takes unfolding plain
-- definitions in a metavariable's type
set_option backward.isDefEq.respectTransparency.types false in
/-- Every weakly fair execution ends with the arrays at what the proof data allow and every semaphore counter at zero. -/
theorem run (T : Tracks m Inv O) :
    θ_run defs (onTc (τ := τ) (main (F := F))) (s₀ m ρ)
      (fun r => Pipeline.RDat.FramePost cfg0 (rdat m Inv O) (V m) r ∧ r.2.sem = fun _ => 0) :=
  Pipeline.RDat.θ_run_frame_track (Q' := _) cfgs (0 : Fin 1) launch0 defs₀ Variants.none (rdat m Inv O) m ρ main
    (hbody := fun c => body_obligation m c T) (hshare := fun c => (rdat m Inv O c).share_full fun _ => rfl)
    (howed := fun _ _ => rfl) (V := V m) (hmain := hmain m Variants.none) (hA := A_eq m Inv O) (hin := fun c => hin m c T) (hout := hout m)

/-- The frame: every execution ends with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1.arr_in c 0 rfl).trans ((A_eq m _ _ c 0).trans (V_main_arg0 m c)),
       (h.1.arr_in c 1 rfl).trans ((A_eq m _ _ c 1).trans (V_main_arg1 m c)),
       (h.1.arr_in c 2 rfl).trans ((A_eq m _ _ c 2).trans (V_main_arg2 m c)),
       (h.1.arr_in c 3 rfl).trans ((A_eq m _ _ c 3).trans (V_main_arg3 m c)),
       ((h.1 c).2 main_arg4 (Pipeline.mem_restRefs_of main_arg4 (by decide) (by decide))).trans (V_main_arg4 m c)⟩, h.2⟩)
    (run m ρ (Tracks.trivial m))

/-- The last point. -/
def lastPoint : Fin cfg0.N := ⟨4, by rw [show cfg0.N = 5 from N_0]; omega⟩

/-- The hidden rows: every execution ends with their array at contents of which their predicate holds. -/
theorem outputs (T : Tracks m Inv O) : θ_run defs (onTc (τ := τ) (main (F := F))) (s₀ m ρ) (fun r => ∀ c : Dev nD,
      ∃ X, O c X ∧ r.2.mem ((c.tc : Thread nD τ).loc main_v1_0) = X) :=
  (θ_run defs _ _).mono (fun r h c => by
    obtain ⟨X, ⟨Y, -, hX⟩, e⟩ := ((h.1 c).1 5).emb_eq_of_wholeAt (t₀ := lastPoint) (by decide +kernel)
    exact ⟨X, hX rfl, funext fun j => e j⟩)
    (run m ρ T)

end Cert.DownIdeal.Down

end
-- ==== Proof.Down.Twin.lean ====
/- The down kernel as printed and its idealization are one program, so the frame proved of the one is the frame of the other. -/
module

public import proofs.«01_k».proof.Defs
public import proofs.«01_k».proof.Proof.Gen.Down
public import proofs.«01_k».proof.Proof.Down.Run

@[expose] public section

set_option maxRecDepth 16384

noncomputable section

namespace Cert.DownIdeal.Down

open Idealize.ShloMosaic Idealize.SL.Sem

attribute [local instance] Cert.Down.Gen.facts Cert.DownIdeal.Gen.facts

variable {F : FTy → Type} [FloatOps F]

/-- The two programs' body tables are the same. -/
theorem defs₀_twin : Cert.Down.defs₀ (F := F) = Cert.DownIdeal.defs₀ := by
  unfold Cert.Down.defs₀ Cert.DownIdeal.defs₀
  refine congrArg (Defs.onTc (nD := Cert.DownIdeal.nD) (τ := Cert.DownIdeal.τ) (sig := Cert.DownIdeal.sig) (Val := Elt F) (Λ := Cert.DownIdeal.Λ₀)) ?_
  funext l x
  match l, x with
  | 0, (t, s) => rfl
  | ⟨_ + 1, h⟩, _ => exact absurd h (Nat.not_lt.2 (Nat.le_add_left _ _))

/-- So are their definitions with the pipeline's. -/
theorem defs_twin : Cert.Down.defs (F := F) = Cert.DownIdeal.defs := by
  unfold Cert.Down.defs Cert.DownIdeal.defs
  rw [defs₀_twin]; rfl

/-- The frame of the kernel as printed: every execution ends with the argument arrays unchanged and every semaphore
    counter at zero. -/
theorem frame_twin : Cert.quiescent_Down := by
  intro m g _
  rw [defs_twin]
  exact frame (F := Bits) m g

end Cert.DownIdeal.Down

end
-- ==== Proof.Down.Spec.lean ====
/- The hidden rows both programs compute, over the extended reals. -/
module

public import proofs.«01_k».proof.Proof.Head.Spec

@[expose] public section

noncomputable section

namespace Cert.Spec

open Idealize.ShloMosaic

/-- An entry of the hidden rows: the row's own entry and the row of activations against the column's codes, each times two to
    the power its block's scale byte names. -/
def hidden (x : Fin 256 → Fin 2560 → EReal) (a : Fin 256 → Fin 6912 → EReal) (w : Fin 6912 → Fin 2560 → EReal)
    (s : Fin 216 → Fin 2560 → BitVec 8) (r : Fin 256) (j : Fin 2560) : EReal :=
  x r j + ∑ k, a r k * (w k j * pow2 (s ⟨k.val / 32, by omega⟩ j))

end Cert.Spec

end
-- ==== Proof.Down.Columns.lean ====
/- The columns of a block of the down kernel, read over the extended reals. -/
module

public import proofs.«01_k».proof.Proof.Down.Spec
public import proofs.«01_k».proof.Proof.Down.Run
public import proofs.«01_k».proof.Proof.Head.Logits
public import Idealize.ShloMosaic.Lib.Pointwise
public import Idealize.ShloMosaic.Lib.StableHlo.ReadAt
public import Idealize.ShloMosaic.Lib.BitcastPair
public import Idealize.ShloMosaic.Lib.Pipeline.ValueKit.Geometry

@[expose] public section

set_option maxRecDepth 16384

noncomputable section

namespace Cert.DownIdeal.Down

open Cert.DownIdeal Cert.DownIdeal.Gen
open Idealize.ShloMosaic Idealize.ShloMosaic.TcCoe Idealize.SL.Sem

/-- A row of words broadcast over eight, read at half width: each entry is a half of its column's word. -/
theorem scaleRows_apply (s : Vec Ideal S1x512 .i32) (b : BitVec 8) (h1 : 1 ≤ b.toNat) (h2 : b.toNat ≤ 254) (i : Fin 16) (c : Fin 512)
    (hs : s (ix2 0 c) = Cert.KernelIdeal.Head.word b) : scaleRows s (ix2 i c) = Spec.pow2 b := by
  unfold scaleRows
  pointwise []
  rw [bitcast_32_16]
  refine (congrArg (Ideal.ofBits .bf16) ?_).trans (Cert.KernelIdeal.Head.ofBits_exponent b h1 h2)
  rw [← Cert.KernelIdeal.Head.half_word b (S16x512.row (ix2 i c) % 2) (by omega), ← hs]
  refine congrArg (BitVec.extractLsb' (16 * (S16x512.row (ix2 i c) % 2)) 16) ?_
  generalize hj : Shape.Bitcasts.srcIdx _ _ _ _ = j
  have hj1 : j 1 = c := by rw [← hj]; exact Fin.ext (Shape.Bitcasts.srcIdx_other _ _ _ _ 1 (by decide))
  rw [show j = ix2 (j 0) c from by rw [← hj1]; funext a; match a with | ⟨0, _⟩ => rfl | ⟨1, _⟩ => rfl]
  pointwise []

/-! ## The widened codes -/

/-- An entry of sixteen rows of the widened codes. -/
theorem part_apply (w : Vec Ideal S6912x512 .fp8e4m3) (sc : Fin 216 → Vec Ideal S1x512 .i32) (k : Fin 432) (i : Fin 16) (c : Fin 512)
    (b : BitVec 8) (h1 : 1 ≤ b.toNat) (h2 : b.toNat ≤ 254) (hs : sc ⟨k.val / 2, by omega⟩ (ix2 0 c) = Cert.KernelIdeal.Head.word b) :
    part w sc k (ix2 i c) = (w (ix2 ⟨16 * k.val + i.val, by omega⟩ c) : EReal) * Spec.pow2 b := by
  have h := scaleRows_apply _ b h1 h2 i c hs
  unfold part
  pointwise []
  rw [h]
  refine congrArg (fun j => (w (ix2 j c) : EReal) * Spec.pow2 b) (Fin.ext ?_)
  show 32 * (k.val / 2) + (16 * (k.val % 2) + i.val) = 16 * k.val + i.val
  omega

/-- An entry of the widened codes: the code times two to the power its block's scale byte names. -/
theorem widened_apply (w : Vec Ideal S6912x512 .fp8e4m3) (sc : Fin 216 → Vec Ideal S1x512 .i32) (b : Fin 216 → BitVec 8) (c : Fin 512)
    (h1 : ∀ n, 1 ≤ (b n).toNat) (h2 : ∀ n, (b n).toNat ≤ 254) (hs : ∀ n, sc n (ix2 0 c) = Cert.KernelIdeal.Head.word (b n)) (k : Fin 6912) :
    widened w sc (ix2 k c) = (w (ix2 k c) : EReal) * Spec.pow2 (b ⟨k.val / 32, by omega⟩) := by
  unfold widened
  refine (concatenate_ofFn_apply (t := S6912x512) (s₁ := S16x512) (N := 432) 0 (fun n => part w sc n) (concat_parts w sc) rfl 16 rfl (ix2 k c)
    ⟨k.val / 16, by omega⟩ rfl (ix2 ⟨k.val % 16, by omega⟩ c) rfl (fun a ha => ?_)).trans ?_
  · match a with
    | ⟨0, _⟩ => exact absurd rfl ha
    | ⟨1, _⟩ => rfl
  rw [part_apply w sc _ _ c (b ⟨k.val / 16 / 2, by omega⟩) (h1 ⟨k.val / 16 / 2, by omega⟩) (h2 ⟨k.val / 16 / 2, by omega⟩) (hs ⟨k.val / 16 / 2, by omega⟩)]
  have e1 : (⟨16 * (k.val / 16) + k.val % 16, by omega⟩ : Fin 6912) = k := Fin.ext (by show 16 * (k.val / 16) + k.val % 16 = k.val; omega)
  have e2 : (⟨k.val / 16 / 2, by omega⟩ : Fin 216) = ⟨k.val / 32, by omega⟩ := Fin.ext (by show k.val / 16 / 2 = k.val / 32; omega)
  rw [e2]
  exact congrArg (fun j => (w (ix2 j c) : EReal) * Spec.pow2 (b ⟨k.val / 32, by omega⟩)) e1

/-- An entry of the product. -/
theorem prod_apply (x : Vec Ideal S256x6912 .bf16) (w : Vec Ideal S6912x512 .fp8e4m3) (sc : Fin 216 → Vec Ideal S1x512 .i32)
    (b : Fin 216 → BitVec 8) (c : Fin 512) (h1 : ∀ n, 1 ≤ (b n).toNat) (h2 : ∀ n, (b n).toNat ≤ 254)
    (hs : ∀ n, sc n (ix2 0 c) = Cert.KernelIdeal.Head.word (b n)) (r : Fin 256) :
    prod x w sc (ix2 r c) = ∑ k : Fin 6912, (x (ix2 r k) : EReal) * ((w (ix2 k c) : EReal) * Spec.pow2 (b ⟨k.val / 32, by omega⟩)) := by
  have h := fun k => widened_apply w sc b c h1 h2 hs k
  unfold prod k0_pay8
  pointwise []
  exact Finset.sum_congr rfl fun k _ => congrArg (fun e : EReal => (x (ix2 r k) : EReal) * e) (h k)

/-! ## The blocks -/

/-- An entry of the scale words. -/
theorem words_apply (x3 : Vec Ideal S216x512 .i8) (n : Fin 216) (c : Fin 512) :
    words x3 n (ix2 0 c) = Cert.KernelIdeal.Head.word (x3 (ix2 n c)) := by
  unfold words VecWindow.window
  have e : (Rect.unit (s := S216x512) ![n.val, 0] S1x512.size (inb_words n)).emb (ix2 (0 : Fin 1) c) = (ix2 n c : S216x512.Idx) := by
    funext a
    match a with
    | ⟨0, _⟩ => exact Fin.ext (by rw [Rect.emb_apply]; rfl)
    | ⟨1, _⟩ => exact Fin.ext (by rw [Rect.emb_apply]; show 0 + 1 * c.val = c.val; omega)
  show k0_pay281 x3 _ = _
  rw [e]
  pointwise [k0_pay281]
  rfl

variable (m : (ℓ : Loc nD τ sig) → Buf (Elt Ideal) ℓ)

/-- The rows' block is all of them at every point. -/
theorem blk_rows (c : Dev nD) (t : Fin cfg0.N) : iblk m c 0 t = m ((c : Thread nD τ).loc main_arg0) := by
  unfold iblk
  funext i
  blk_simp
  refine (congrArg (V m c main_arg0) ?_).trans (congrFun (V_main_arg0 m c) _)
  have e : ∀ a, win0_0.index t a = 0 := fun a => (by decide +kernel : ∀ t a, win0_0.index t a = 0) t a
  blk_ext <;> simp only [e] <;> omega

/-- The activations' block is all of them at every point. -/
theorem blk_acts (c : Dev nD) (t : Fin cfg0.N) : iblk m c 1 t = m ((c : Thread nD τ).loc main_arg1) := by
  unfold iblk
  funext i
  blk_simp
  refine (congrArg (V m c main_arg1) ?_).trans (congrFun (V_main_arg1 m c) _)
  have e : ∀ a, win0_1.index t a = 0 := fun a => (by decide +kernel : ∀ t a, win0_1.index t a = 0) t a
  blk_ext <;> simp only [e] <;> omega

/-- The codes' staging buffer at a column of the array. -/
theorem codesAt_apply (c : Dev nD) (t : Fin cfg0.N) (d : Vec Ideal S6912x512 .fp8e4m3) (k : Fin 6912) (x : Fin 512)
    (h : 512 * t.val + x.val < 2560) : codesAt m c t d (ix2 k x) = m ((c : Thread nD τ).loc main_arg2) (ix2 k ⟨512 * t.val + x.val, h⟩) := by
  have e0 : win0_2.index t 0 = 0 := (by decide +kernel : ∀ t, win0_2.index t 0 = 0) t
  have e1 : win0_2.index t 1 = t.val := (by decide +kernel : ∀ t, win0_2.index t 1 = t.val) t
  have x0 : win0_2.xsize (grid0.coords t) 0 = 6912 := (by decide +kernel : ∀ t, win0_2.xsize (grid0.coords t) 0 = 6912) t
  have x1 : win0_2.xsize (grid0.coords t) 1 = 512 := (by decide +kernel : ∀ t, win0_2.xsize (grid0.coords t) 1 = 512) t
  unfold codesAt Pipeline.Window.fill
  rw [dif_pos ?_]
  · unfold iblk
    blk_simp
    refine (congrArg (V m c main_arg2) ?_).trans (congrFun (V_main_arg2 m c) _)
    blk_ext <;> simp only [e0, e1] <;> omega
  · rw [Pipeline.Window.moved_iff]
    intro a
    match a with
    | ⟨0, _⟩ => exact lt_of_lt_of_eq k.isLt x0.symm
    | ⟨1, _⟩ => exact lt_of_lt_of_eq x.isLt x1.symm

/-- The scales' staging buffer at a column of the array. -/
theorem scalesAt_apply (c : Dev nD) (t : Fin cfg0.N) (d : Vec Ideal S216x512 .i8) (k : Fin 216) (x : Fin 512)
    (h : 512 * t.val + x.val < 2560) : scalesAt m c t d (ix2 k x) = m ((c : Thread nD τ).loc main_arg3) (ix2 k ⟨512 * t.val + x.val, h⟩) := by
  have e0 : win0_3.index t 0 = 0 := (by decide +kernel : ∀ t, win0_3.index t 0 = 0) t
  have e1 : win0_3.index t 1 = t.val := (by decide +kernel : ∀ t, win0_3.index t 1 = t.val) t
  have x0 : win0_3.xsize (grid0.coords t) 0 = 216 := (by decide +kernel : ∀ t, win0_3.xsize (grid0.coords t) 0 = 216) t
  have x1 : win0_3.xsize (grid0.coords t) 1 = 512 := (by decide +kernel : ∀ t, win0_3.xsize (grid0.coords t) 1 = 512) t
  unfold scalesAt Pipeline.Window.fill
  rw [dif_pos ?_]
  · unfold iblk
    blk_simp
    refine (congrArg (V m c main_arg3) ?_).trans (congrFun (V_main_arg3 m c) _)
    blk_ext <;> simp only [e0, e1] <;> omega
  · rw [Pipeline.Window.moved_iff]
    intro a
    match a with
    | ⟨0, _⟩ => exact lt_of_lt_of_eq k.isLt x0.symm
    | ⟨1, _⟩ => exact lt_of_lt_of_eq x.isLt x1.symm

end Cert.DownIdeal.Down

end
-- ==== Proof.Down.Value.lean ====
/- The hidden rows of the down kernel, read over the extended reals. -/
module

public import proofs.«01_k».proof.Proof.Down.Columns

@[expose] public section

set_option maxRecDepth 16384

noncomputable section

namespace Cert.DownIdeal.Down

open Cert.DownIdeal Cert.DownIdeal.Gen
open Idealize.ShloMosaic Idealize.ShloMosaic.TcCoe Idealize.SL.Sem

variable (m : (ℓ : Loc nD τ sig) → Buf (Elt Ideal) ℓ) (ρ : Dev nD → PrngReg)

/-- The product of the activations and the widened matrix. -/
def product (a : Fin 256 → Fin 6912 → EReal) (w : Fin 6912 → Fin 2560 → EReal) (s : Fin 216 → Fin 2560 → BitVec 8) (r : Fin 256) (j : Fin 2560) : EReal :=
  ∑ k : Fin 6912, a r k * (w k j * Spec.pow2 (s ⟨k.val / 32, by omega⟩ j))

/-- The product of the arguments on a device. -/
def Y (c : Dev nD) : Fin 256 → Fin 2560 → EReal :=
  product (fun r k => m ((c : Thread nD τ).loc main_arg1) (ix2 r k)) (fun k j => m ((c : Thread nD τ).loc main_arg2) (ix2 k j))
    (fun b j => m ((c : Thread nD τ).loc main_arg3) (ix2 b j))

/-- The hidden rows of the arguments on a device. -/
def H (c : Dev nD) : Fin 256 → Fin 2560 → EReal :=
  Spec.hidden (fun r j => m ((c : Thread nD τ).loc main_arg0) (ix2 r j)) (fun r k => m ((c : Thread nD τ).loc main_arg1) (ix2 r k))
    (fun k j => m ((c : Thread nD τ).loc main_arg2) (ix2 k j)) (fun b j => m ((c : Thread nD τ).loc main_arg3) (ix2 b j))

/-- They are the rows plus the product. -/
theorem H_eq (c : Dev nD) (r : Fin 256) (j : Fin 2560) :
    H m c r j = HAdd.hAdd (α := EReal) (β := EReal) (γ := EReal) (m ((c : Thread nD τ).loc main_arg0) (ix2 r j)) (Y m c r j) := rfl

/-- Every scale byte on a device names the exponent of a normal float. -/
def ScalesOk (c : Dev nD) : Prop :=
  ∀ n j, 1 ≤ (m ((c : Thread nD τ).loc main_arg3) (ix2 n j) : BitVec 8).toNat
    ∧ (m ((c : Thread nD τ).loc main_arg3) (ix2 n j) : BitVec 8).toNat ≤ 254

/-- A point's block holds the product's columns. -/
theorem cols_apply (c : Dev nD) (hs : ScalesOk m c) (t : Fin cfg0.N) (d2 : Vec Ideal S6912x512 .fp8e4m3) (d3 : Vec Ideal S216x512 .i8)
    (r : Fin 256) (x : Fin 512) (h : 512 * t.val + x.val < 2560) :
    cols (iblk m c 1 t) (codesAt m c t d2) (scalesAt m c t d3) (ix2 r x) = Y m c r ⟨512 * t.val + x.val, h⟩ := by
  unfold cols
  rw [blk_acts]
  refine (prod_apply _ _ _ (fun n => m ((c : Thread nD τ).loc main_arg3) (ix2 n ⟨512 * t.val + x.val, h⟩)) x
    (fun n => (hs n _).1) (fun n => (hs n _).2) (fun n => ?_) r).trans ?_
  · rw [words_apply, scalesAt_apply m c t d3 n _ h]
  · unfold Y product
    refine Finset.sum_congr rfl fun k _ => ?_
    rw [codesAt_apply m c t d2 k _ h]

/-- The invariant of the product scratch: after `n` blocks its first `512 n` columns are the product's. -/
def Inv (c : Dev nD) (n : ℕ) (s : Vec Ideal S256x2560 .f32) : Prop :=
  ∀ (r : Fin 256) (j : Fin 2560), j.val < 512 * n → s (ix2 r j) = Y m c r j

/-- The hidden rows, entry by entry. -/
def Hid (c : Dev nD) (Z : Vec Ideal S256x2560 .bf16) : Prop := ∀ (r : Fin 256) (j : Fin 2560), Z (ix2 r j) = H m c r j

/-- Where a point's block of columns lies. -/
theorem block_at (t : Fin cfg0.N) : k0_off1 (grid0.coords t) = ![0, 512 * t.val] := by
  rw [k0_off1_eq, (by decide +kernel : ∀ t : Fin cfg0.N, (grid0.coords t 0).val = t.val) t]

/-- A block's step puts its columns in place. -/
theorem inv_step (c : Dev nD) (hs : ScalesOk m c) (t : Fin cfg0.N) (d2 : Vec Ideal S6912x512 .fp8e4m3) (d3 : Vec Ideal S216x512 .i8)
    (s : Vec Ideal S256x2560 .f32) (hI : Inv m c t.val s) :
    Inv m c (t.val + 1) (blockStep (grid0.coords t) (iblk m c 1 t) (codesAt m c t d2) (scalesAt m c t d3) s) := by
  intro r j hj
  have e0 : k0_off1 (grid0.coords t) 0 = 0 := by rw [block_at]; rfl
  have e1 : k0_off1 (grid0.coords t) 1 = 512 * t.val := by rw [block_at]; rfl
  have hj2 : j.val < 2560 := j.isLt
  unfold blockStep VecWindow.put
  by_cases hk : 512 * t.val ≤ j.val
  · rw [dif_pos (fun a => ?_)]
    · have hx : j.val - 512 * t.val < 512 := by omega
      refine (congrArg (cols (iblk m c 1 t) (codesAt m c t d2) (scalesAt m c t d3)) (?_ : _ = ix2 r ⟨j.val - 512 * t.val, hx⟩)).trans ?_
      · funext a
        match a with
        | ⟨0, _⟩ => exact Fin.ext (by show r.val - k0_off1 (grid0.coords t) 0 = r.val; omega)
        | ⟨1, _⟩ => exact Fin.ext (by show j.val - k0_off1 (grid0.coords t) 1 = j.val - 512 * t.val; omega)
      · rw [cols_apply m c hs t d2 d3 r ⟨j.val - 512 * t.val, hx⟩ (by show 512 * t.val + (j.val - 512 * t.val) < 2560; omega)]
        exact congrArg (Y m c r) (Fin.ext (by show 512 * t.val + (j.val - 512 * t.val) = j.val; omega))
    · match a with
      | ⟨0, _⟩ => exact ⟨by show k0_off1 (grid0.coords t) 0 ≤ r.val; omega, by show r.val < k0_off1 (grid0.coords t) 0 + 256; omega⟩
      | ⟨1, _⟩ => exact ⟨by show k0_off1 (grid0.coords t) 1 ≤ j.val; omega, by show j.val < k0_off1 (grid0.coords t) 1 + 512; omega⟩
  · rw [dif_neg (fun h => hk (by have := (h 1).1; rw [e1] at this; exact this))]
    exact hI r j (by omega)

/-- An entry of the hidden rows as the kernel forms them. -/
theorem hid_apply (x0 : Vec Ideal S256x2560 .bf16) (s : Vec Ideal S256x2560 .f32) (r : Fin 256) (j : Fin 2560) :
    hid x0 s (ix2 r j) = (x0 (ix2 r j) : EReal) + s (ix2 r j) := by
  unfold hid
  pointwise []

/-- The product scratch is filled block by block and gives the hidden rows. -/
theorem tracks (hs : ∀ c, ScalesOk m c) : Tracks m (Inv m) (Hid m) where
  start c s r j h := absurd h (by omega)
  step c t d2 d3 s h := inv_step m c (hs c) t d2 d3 s h
  out c t s _ h r j := by
    rw [hid_apply, blk_rows, h r j (by have := j.isLt; omega), H_eq]

end Cert.DownIdeal.Down

end
-- ==== Proof.DownRef.Value.lean ====
/- The second reference's result, read over the extended reals. -/
module

public import proofs.«01_k».proof.Proof.Gen.DownReferenceIdeal.Frame
public import proofs.«01_k».proof.Proof.Down.Spec
public import Idealize.ShloMosaic.Lib.StableHlo.ReadAt
public import Idealize.ShloMosaic.Lib.ValueIdxCore
public import Idealize.ShloMosaic.Lib.Pointwise
public import Idealize.ShloMosaic.Lib.Pipeline.ValueKit.Geometry

@[expose] public section

set_option maxRecDepth 16384

noncomputable section

namespace Cert.DownReferenceIdeal.Ref

open Cert.DownReferenceIdeal Cert.DownReferenceIdeal.Gen
open Idealize.ShloMosaic Idealize.ShloMosaic.TcCoe Idealize.SL.Sem

/-! ## The widened weight -/

/-- The exponent a scale byte names, as the reference computes it. -/
theorem exponent_eq (s : BitVec 8) : (IntOp.subi (BitVec.setWidth 32 s) 127#32).toInt = (s.toNat : ℤ) - 127 := by
  show (BitVec.setWidth 32 s - 127#32).toInt = _
  have := s.isLt
  rw [BitVec.toInt_sub, BitVec.toInt_setWidth, BitVec.toInt_ofNat', Int.bmod_def, Int.bmod_def, Int.bmod_def]
  omega

/-- The widened weight's entry: the code times two to the power its block's scale byte names. -/
theorem widen_apply (x0 : Vec Ideal S6912x2560 .fp8e4m3) (x1 : Vec Ideal S216x2560 .i8) (k : Fin 6912) (c : Fin 2560) :
    k0_pay1 x1 x0 (ix2 k c) = (x0 (ix2 k c) : EReal) * Spec.pow2 (x1 (ix2 ⟨k.val / 32, by omega⟩ c)) := by
  pointwise [k0_pay1]
  refine congrArg (fun e : EReal => x0 (ix2 k c) * e) ?_
  show Ideal.exp2 (((IntOp.subi (BitVec.setWidth 32 (x1 (ix2 ⟨k.val / 32, _⟩ c))) 127#32).toInt : ℝ) : EReal) = _
  rw [exponent_eq, Ideal.exp2_coe]
  unfold Spec.pow2
  norm_num

variable (m : (ℓ : Loc nD τ sig) → Buf (Elt Ideal) ℓ) (ρ : Dev nD → PrngReg)

/-- The one point's block of the codes is the codes. -/
theorem blk_codes (c : Dev nD) : iblk m c 0 t0_0 = m ((c : Thread nD τ).loc main_arg2) := by
  unfold iblk
  funext i
  blk_simp
  refine congrArg (m ((c : Thread nD τ).loc main_arg2)) ?_
  have e : ∀ a, win0_0.index t0_0 a = 0 := by decide +kernel
  blk_ext <;> simp only [e] <;> omega

/-- The one point's block of the scales is the scales. -/
theorem blk_scales (c : Dev nD) : iblk m c 1 t0_0 = m ((c : Thread nD τ).loc main_arg3) := by
  unfold iblk
  funext i
  blk_simp
  refine congrArg (m ((c : Thread nD τ).loc main_arg3)) ?_
  have e : ∀ a, win0_1.index t0_0 a = 0 := by decide +kernel
  blk_ext <;> simp only [e] <;> omega

/-- What the body leaves is the widened weight of the two blocks. -/
theorem out_eq (x0 : Vec Ideal S6912x2560 .fp8e4m3) (x1 : Vec Ideal S216x2560 .i8) : out0_2 x0 x1 = k0_pay1 x1 x0 := by
  have hr : ∀ i : S6912x2560.Idx, r0_1.emb i = i := fun i => by funext a; exact Fin.ext (by fin_cases a <;> simp [r0_1, Rect.emb, Rect.unit])
  have hl0 : View.ld x0 r0_1 = x0 := by funext i; exact congrArg x0 (hr i)
  have hl1 : View.ld x1 r0_0 = x1 := by
    funext i; refine congrArg x1 ?_; funext a; exact Fin.ext (by fin_cases a <;> simp [r0_0, Rect.emb, Rect.unit])
  unfold out0_2
  rw [hl0, hl1]
  funext i
  have := View.canon_cons_emb (Val := Elt Ideal) (e := .bf16) r0_1 (k0_pay1 (F := Ideal) x1 x0) [] i
  rw [hr] at this
  exact this

/-- What the region leaves in its array: the widened weight of the two arrays. -/
theorem arr_final (c : Dev nD) :
    (dats m 0 c).arrAt 2 cfg0.N = k0_pay1 (m ((c : Thread nD τ).loc main_arg3)) (m ((c : Thread nD τ).loc main_arg2)) := by
  refine Pipeline.Dat.arrAt_eq_of_after_last (dats m 0 c) 2 t0_0 (by decide +kernel)
    (k0_pay1 (m ((c : Thread nD τ).loc main_arg3)) (m ((c : Thread nD τ).loc main_arg2))) (fun j => ?_) (Memref.isWhole_whole _)
  rw [after0_2, out_eq, blk_codes, blk_scales]
  rfl

/-! ## The result -/

/-- The buffers' contents when the region is left. -/
def left (c : Dev nD) : Valuation τ sig (Elt Ideal) :=
  Pipeline.withArrays spec0 c (V0 m c) fun w => (dats m 0 c).arrAt w cfg0.N

/-- The region leaves the rows the product is added to, -/
theorem left_arg0 (c : Dev nD) : left m c (Proc.devRef .tc main_arg0) = m ((c : Thread nD τ).loc main_arg0) :=
  Pipeline.withArrays_of_ne _ c (V0 m c) _ main_arg0 (by exact (by decide : ∀ w, Pipeline.arrRef spec0 w ≠ main_arg0))

/-- the rows of the product -/
theorem left_arg1 (c : Dev nD) : left m c (Proc.devRef .tc main_arg1) = m ((c : Thread nD τ).loc main_arg1) :=
  Pipeline.withArrays_of_ne _ c (V0 m c) _ main_arg1 (by exact (by decide : ∀ w, Pipeline.arrRef spec0 w ≠ main_arg1))

/-- and the widened weight. -/
theorem left_v0 (c : Dev nD) : left m c (Proc.devRef .tc main_v0)
    = k0_pay1 (F := Ideal) (m ((c : Thread nD τ).loc main_arg3)) (m ((c : Thread nD τ).loc main_arg2)) :=
  (Pipeline.withArrays_arr spec0 launch0.win.arr_inj c (V0 m c) (fun w => (dats m 0 c).arrAt w cfg0.N) 2).trans (arr_final m c)

/-- The host operations add the rows to their product with the widened weight. -/
theorem ops_hidden (V : Valuation τ sig (Elt Ideal)) (r : Fin 256) (j : Fin 2560) :
    StableHlo.after (hostOps1 (F := Ideal)) V (Proc.devRef .tc main_v4) (ix2 r j)
      = HAdd.hAdd (α := EReal) (V (Proc.devRef .tc main_arg0) (ix2 r j))
        (∑ k : Fin 6912, HMul.hMul (α := EReal) (β := EReal) (γ := EReal) (V (Proc.devRef .tc main_arg1) (ix2 r k)) (V (Proc.devRef .tc main_v0) (ix2 k j))) := by
  after_reads_at

/-- The hidden rows of the arguments on a device. -/
def H (c : Dev nD) : Fin 256 → Fin 2560 → EReal :=
  Spec.hidden (fun r j => m ((c : Thread nD τ).loc main_arg0) (ix2 r j)) (fun r k => m ((c : Thread nD τ).loc main_arg1) (ix2 r k))
    (fun k j => m ((c : Thread nD τ).loc main_arg2) (ix2 k j)) (fun b j => m ((c : Thread nD τ).loc main_arg3) (ix2 b j))

/-- The tail leaves them in the result. -/
theorem hidden_final (c : Dev nD) (r : Fin 256) (j : Fin 2560) :
    Pipeline.afterTail₀ cfgs (dats m) 0 (V0 m) [hostOps1] c main_v4 (ix2 r j) = H m c r j := by
  have e : Pipeline.afterTail₀ cfgs (dats m) 0 (V0 m) [hostOps1] c main_v4
      = StableHlo.after hostOps1 (left m c) (Proc.devRef .tc main_v4) := by
    unfold Pipeline.afterTail₀
    rw [show ([hostOps1] : List (List (HloOp τ sig (Elt Ideal)))).flatten = hostOps1 from rfl]
    rfl
  rw [e, ops_hidden, left_arg0, left_arg1, left_v0]
  unfold H Spec.hidden
  refine congrArg (HAdd.hAdd (α := EReal) (β := EReal) (γ := EReal) _) (Finset.sum_congr rfl fun k _ => ?_)
  exact congrArg (HMul.hMul (α := EReal) (β := EReal) (γ := EReal) _) (widen_apply _ _ k j)

/-- The run: the result, entry by entry. -/
theorem run : θ_run defs (onTc (τ := τ) (main (F := Ideal))) ⟨m, fun _ => 0, ρ⟩ (fun r => ∀ c : Dev nD,
      ∀ (x : Fin 256) (j : Fin 2560), r.2.mem ((c.tc : Thread nD τ).loc main_v4) (ix2 x j) = H m c x j) :=
  (θ_run defs _ _).mono (fun r h c x j =>
    (congrFun ((h c).2 main_v4 (Pipeline.mem_restRefs_of main_v4 (by decide) (by decide))) (ix2 x j)).trans (hidden_final m c x j))
    (run_main m ρ)

end Cert.DownReferenceIdeal.Ref

end
-- ==== Proof.Down.Same.lean ====
/- The down kernel and its reference compute the same hidden rows over the extended reals. -/
module

public import proofs.«01_k».proof.Defs
public import proofs.«01_k».proof.Proof.Gen.Pre_down_ok
public import proofs.«01_k».proof.Proof.Same
public import proofs.«01_k».proof.Proof.Down.Value
public import proofs.«01_k».proof.Proof.DownRef.Value

@[expose] public section

set_option maxRecDepth 16384

noncomputable section

namespace Cert.DownSame

open Idealize.ShloMosaic Idealize.ShloMosaic.TcCoe Idealize.SL.Sem Cert.DownIdeal.Down

/-- The precondition on one device's arguments: every scale byte names the exponent of a normal float. -/
theorem of_fn (a0 : FVec Ideal Cert.Pre_down_ok.S256x2560 .bf16) (a1 : FVec Ideal Cert.Pre_down_ok.S256x6912 .bf16)
    (a2 : FVec Ideal Cert.Pre_down_ok.S6912x2560 .fp8e4m3) (a3 : IVec Cert.Pre_down_ok.S216x2560 8) (a4 : FVec Ideal Cert.Pre_down_ok.S2560 .f32)
    (h : Cert.Pre_down_ok.fn (F := Ideal) a0 a1 a2 a3 a4 = fun _ => 1#1) :
    ∀ i, 1 ≤ (a3 i).toNat ∧ (a3 i).toNat ≤ 254 := by
  have h0 := congrFun h default
  haveI : Subsingleton Cert.Pre_down_ok.S_.Idx := ⟨fun i j => funext fun a => a.elim0⟩
  intro i
  obtain ⟨hl, hu⟩ := Cert.Same.and_one _ _ (Host.reduce_andi_all _ _ _ _ _ h0 i)
  exact ⟨Cert.Same.uge_one _ hl, Cert.Same.ule_max _ hu⟩

variable (m : (ℓ : Loc Cert.DownIdeal.nD Cert.DownIdeal.τ Cert.DownIdeal.sig) → Buf (Elt Ideal) ℓ)

/-- Under the precondition every scale byte names the exponent of a normal float. -/
theorem scales_ok (h : Pre_DownIdeal_down_ok m) (c : Dev Cert.DownIdeal.nD) : ScalesOk m c :=
  fun _ _ => of_fn _ _ _ _ _ (h c) _

/-- The hidden rows on a device. -/
def hidVec (c : Dev Cert.DownIdeal.nD) : Vec Ideal Cert.DownIdeal.S256x2560 .bf16 := fun i => H m c (i 0) (i 1)

/-- An array that holds the hidden rows entry by entry is them. -/
theorem eq_hid (c : Dev Cert.DownIdeal.nD) (Z : Vec Ideal Cert.DownIdeal.S256x2560 .bf16) (h : Hid m c Z) : Z = hidVec m c := by
  funext i
  have e : i = ix2 (i 0) (i 1) := by
    funext a
    match a with
    | ⟨0, _⟩ => rfl
    | ⟨1, _⟩ => rfl
  exact (congrArg Z e).trans (h (i 0) (i 1))

/-- On arguments within the precondition the kernel and the reference end with the same hidden rows, their arguments unchanged. -/
theorem algebraic : algebraic_DownIdeal_DownReferenceIdeal_pre_down_ok := by
  intro m g m' g' hpre hargs
  refine ⟨hidVec m, ?_, ?_⟩
  · refine (θ_run Cert.DownIdeal.defs _ _).mono (fun r h c => ?_)
      (θ_run_and (outputs m g (tracks m (scales_ok m hpre))) (Cert.DownIdeal.Down.frame m g))
    obtain ⟨Z, hZ, e⟩ := h.1 c
    exact ⟨e.trans (eq_hid m c Z hZ), h.2.1 c⟩
  · refine (θ_run Cert.DownReferenceIdeal.defs _ _).mono (fun r h c => ?_)
      (θ_run_and (Cert.DownReferenceIdeal.Ref.run m' g') (Cert.DownReferenceIdeal.Gen.frame m' g'))
    obtain ⟨h0, h1, h2, h3, h4⟩ := hargs c
    have eH : Cert.DownReferenceIdeal.Ref.H m' c = H m c := by
      unfold Cert.DownReferenceIdeal.Ref.H H; rw [h0, h1, h2, h3]
    have hl := h.1 c
    rw [eH] at hl
    exact ⟨eq_hid m c _ hl, h.2.1 c⟩

end Cert.DownSame

end
-- ==== Proof.lean ====
/- The proof of the certificate's claims: for each of the two calls the frames of its three programs, the
idealization and the equality of the kernel's and the reference's results over the extended reals. -/
module

public import proofs.«01_k».proof.Proof.Gen.Pre_inputs_ok
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_down_ok
public import proofs.«01_k».proof.Proof.Gen.Down
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Head.Twin
public import proofs.«01_k».proof.Proof.Same
public import proofs.«01_k».proof.Proof.Down.Twin
public import proofs.«01_k».proof.Proof.Down.Same
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    Cert.Down.Gen.facts, Cert.DownIdeal.Gen.facts, Cert.DownReferenceIdeal.Gen.facts,
    Cert.Pre_inputs_ok.Gen.facts, Cert.Pre_down_ok.Gen.facts,
    Cert.KernelIdeal.Head.frame_twin,
    fun m g _ => Cert.KernelIdeal.Head.frame m g,
    fun m g _ => Cert.KernelIdeal.Head.frame m g,
    fun m g _ => Cert.ReferenceIdeal.Gen.frame m g,
    fun m g _ => Cert.ReferenceIdeal.Gen.frame m g,
    Cert.DownIdeal.Down.frame_twin,
    fun m g _ => Cert.DownIdeal.Down.frame m g,
    fun m g _ => Cert.DownIdeal.Down.frame m g,
    fun m g _ => Cert.DownReferenceIdeal.Gen.frame m g,
    fun m g _ => Cert.DownReferenceIdeal.Gen.frame m g,
    trivial,
    Cert.Same.algebraic,
    trivial,
    Cert.DownSame.algebraic⟩

end Cert.Proof

end
